-- ==== Defs.lean ====
def Pre_Kernel [hPre_label_in_row : Cert.Pre_label_in_row.Facts] (m : (ℓ : Loc Cert.Kernel.nD Cert.Kernel.τ Cert.Kernel.sig) → Buf (Elt Bits) ℓ) : Prop :=
  ∀ c : Dev Cert.Kernel.nD,
    (Cert.Pre_label_in_row.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_label_in_row : Cert.Pre_label_in_row.Facts] (m : (ℓ : Loc Cert.KernelIdeal.nD Cert.KernelIdeal.τ Cert.KernelIdeal.sig) → Buf (Elt Ideal) ℓ) : Prop :=
  ∀ c : Dev Cert.KernelIdeal.nD,
    (Cert.Pre_label_in_row.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_label_in_row [hPre_label_in_row : Cert.Pre_label_in_row.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_label_in_row.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_label_in_row : Cert.Pre_label_in_row.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_label_in_row : Cert.Pre_label_in_row.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_label_in_row [hReferenceIdeal : Cert.ReferenceIdeal.Facts] [hPre_label_in_row : Cert.Pre_label_in_row.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_label_in_row m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_label_in_row : Cert.Pre_label_in_row.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_label_in_row : Cert.Pre_label_in_row.Facts),
    quiescent_Kernel (hKernel := hKernel) (hPre_label_in_row := hPre_label_in_row)
    ∧ quiescent_KernelIdeal (hKernelIdeal := hKernelIdeal) (hPre_label_in_row := hPre_label_in_row)
    ∧ quiescent_ReferenceIdeal (hReferenceIdeal := hReferenceIdeal)
    ∧ quiescent_ReferenceIdeal_pre_label_in_row (hReferenceIdeal := hReferenceIdeal) (hPre_label_in_row := hPre_label_in_row)
    ∧ preserves_Kernel_KernelIdeal
    ∧ algebraic_KernelIdeal_ReferenceIdeal (hKernelIdeal := hKernelIdeal) (hReferenceIdeal := hReferenceIdeal) (hPre_label_in_row := hPre_label_in_row)
-- ==== Pre_label_in_row.lean ====
abbrev S128x32768 : Shape := ⟨2, ![128, 32768]⟩
abbrev S128 : Shape := ⟨1, ![128]⟩
abbrev S_ : Shape := ⟨0, ![]⟩

class Facts : Prop where
  bcast_S_S128 : S_.BroadcastsInDim S128 (![] : Fin 0 → Fin S128.rank)
  reducesTo_S128_S_d0 : S128.ReducesTo [0] S_
  h_S_ : 0 < S_.numel

variable [Facts]

def fn {F : FTy → Type} [FloatOps F] (main_arg0 : FVec F S128x32768 .f32) (main_arg1 : IVec S128 32) : IVec S_ 1 :=
  let main_c : IVec S_ 32 := constantI S_ 32 0#32
  let main_v0 : IVec S128 32 := broadcastInDim S128 ![] bcast_S_S128 main_c
  let main_v1 : IVec S128 1 := cmpi .sge main_arg1 main_v0
  let main_c_0 : IVec S_ 32 := constantI S_ 32 32768#32
  let main_v2 : IVec S128 32 := broadcastInDim S128 ![] bcast_S_S128 main_c_0
  let main_v3 : IVec S128 1 := cmpi .slt main_arg1 main_v2
  let main_v4 : IVec S128 1 := andi main_v1 main_v3
  let main_c_1 : IVec S_ 1 := constantI S_ 1 1#1
  let main_v5 : IVec S_ 1 := (fun x v => Host.reduce IntOp.andi x v reducesTo_S128_S_d0 h_S_) main_v4 main_c_1
  main_v5
-- ==== Kernel.lean ====
abbrev S128x32768 : Shape := ⟨2, ![128, 32768]⟩
abbrev S128 : Shape := ⟨1, ![128]⟩
abbrev S_ : Shape := ⟨0, ![]⟩
abbrev S4194304 : Shape := ⟨1, ![4194304]⟩
abbrev S16 : Shape := ⟨1, ![16]⟩
abbrev S128x1 : Shape := ⟨2, ![128, 1]⟩
abbrev S1x1 : Shape := ⟨2, ![1, 1]⟩
abbrev S128x2048 : Shape := ⟨2, ![128, 2048]⟩
abbrev S1x128x1 : Shape := ⟨3, ![1, 128, 1]⟩
abbrev S1 : Shape := ⟨1, ![1]⟩
abbrev S1x1x1 : Shape := ⟨3, ![1, 1, 1]⟩

abbrev nBuf : Table → Nat
  | .hbm => 13
  | .local .tc .vmem => 6
  | .local .scVector .vmem => 2
  | _ => 0

abbrev bufTy : (tb : Table) → Fin (nBuf tb) → BufTy
  | .hbm, ⟨0, _⟩ => ⟨S128x32768, .f32⟩
  | .hbm, ⟨1, _⟩ => ⟨S128, .i32⟩
  | .hbm, ⟨2, _⟩ => ⟨S128, .i32⟩
  | .hbm, ⟨3, _⟩ => ⟨S_, .i32⟩
  | .hbm, ⟨4, _⟩ => ⟨S128, .i32⟩
  | .hbm, ⟨5, _⟩ => ⟨S128, .i32⟩
  | .hbm, ⟨6, _⟩ => ⟨S128, .i32⟩
  | .hbm, ⟨7, _⟩ => ⟨S4194304, .f32⟩
  | .hbm, ⟨8, _⟩ => ⟨S128, .f32⟩
  | .hbm, ⟨9, _⟩ => ⟨S128x1, .f32⟩
  | .hbm, ⟨10, _⟩ => ⟨S128x1, .i32⟩
  | .hbm, ⟨11, _⟩ => ⟨S1x1, .f32⟩
  | .hbm, ⟨12, _⟩ => ⟨S_, .f32⟩
  | .local .tc .vmem, ⟨0, _⟩ => ⟨S128x1, .f32⟩
  | .local .tc .vmem, ⟨1, _⟩ => ⟨S128x1, .i32⟩
  | .local .tc .vmem, ⟨2, _⟩ => ⟨S128x2048, .f32⟩
  | .local .tc .vmem, ⟨3, _⟩ => ⟨S128x2048, .f32⟩
  | .local .tc .vmem, ⟨4, _⟩ => ⟨S1x1, .f32⟩
  | .local .tc .vmem, ⟨5, _⟩ => ⟨S128x1, .i32⟩
  | .local .scVector .vmem, ⟨0, _⟩ => ⟨S16, .i32⟩
  | .local .scVector .vmem, ⟨1, _⟩ => ⟨S16, .f32⟩
  | _, _ => ⟨S128x32768, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 8 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | _ => false

abbrev sig : RefSig :=
  ofTables nBuf rfl bufTy 4 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v4_scv : Ref sig .scVector := ⟨.hbm, 7, rfl⟩
abbrev main_v3_scv : Ref sig .scVector := ⟨.hbm, 6, rfl⟩
abbrev main_v5_scv : Ref sig .scVector := ⟨.hbm, 8, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg2_1 : Ref sig .tc := ⟨.vmem, 3, rfl⟩
abbrev cc1_stg3_0 : Ref sig .tc := ⟨.vmem, 4, rfl⟩
abbrev cc1_scratch0 : Ref sig .tc := ⟨.vmem, 5, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem2_1 : DmaSem sig := 6
abbrev cc1_sem3_0 : DmaSem sig := 7
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c8_i32 : BitVec 32 := 8#32
  let v2 : BitVec 1 := Scalar.cmpi .slt v1 c8_i32
  let v3 : BitVec 32 := Scalar.extui v2
  let c0_i32 : BitVec 32 := 0#32
  let v4 : BitVec 1 := Scalar.cmpi .ne v3 c0_i32
  v4

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c16_i32 : BitVec 32 := 16#32
  let v5 : BitVec 32 := Scalar.muli v1 c16_i32
  ![v5.toNat]
abbrev grid1 : Pipeline.Grid := ⟨1, ![16], ![false]⟩

def k1_cond2 (i : grid1.Coords) : BitVec 1 :=
  let arg0 : BitVec 32 := BitVec.ofNat 32 (i 0).val
  let c15_i32 : BitVec 32 := 15#32
  let v28 : BitVec 1 := Scalar.cmpi .eq arg0 c15_i32
  let v29 : BitVec 32 := Scalar.extui v28
  let c0_i32_10 : BitVec 32 := 0#32
  let v30 : BitVec 1 := Scalar.cmpi .ne v29 c0_i32_10
  v30

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S128x1 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S128x1 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S128x2048 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S128x32768 : Shape := ⟨2, ![128, 32768]⟩
abbrev S128 : Shape := ⟨1, ![128]⟩
abbrev S128x5 : Shape := ⟨2, ![128, 5]⟩
abbrev S128x1 : Shape := ⟨2, ![128, 1]⟩
abbrev S_ : Shape := ⟨0, ![]⟩

abbrev nBuf : Space → Nat
  | .hbm => 14
  | .vmem => 0
  | .smem => 0
  | _ => 0

abbrev bufTy : (tb : Table) → Fin (tcTables nBuf tb) → BufTy
  | .hbm, ⟨0, _⟩ => ⟨S128x32768, .f32⟩
  | .hbm, ⟨1, _⟩ => ⟨S128, .i32⟩
  | .hbm, ⟨2, _⟩ => ⟨S128x5, .f32⟩
  | .hbm, ⟨3, _⟩ => ⟨S128x5, .i32⟩
  | .hbm, ⟨4, _⟩ => ⟨S128x1, .i32⟩
  | .hbm, ⟨5, _⟩ => ⟨S128x5, .i32⟩
  | .hbm, ⟨6, _⟩ => ⟨S128x5, .i1⟩
  | .hbm, ⟨7, _⟩ => ⟨S_, .i1⟩
  | .hbm, ⟨8, _⟩ => ⟨S128, .i1⟩
  | .hbm, ⟨9, _⟩ => ⟨S128, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | _, _ => ⟨S128x32768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_values : Ref sig .tc := ⟨.hbm, 2, rfl⟩
abbrev main_indices : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩

abbrev nD : Nat := 1
abbrev τ : Topo := Topo.v7x

variable {F : FTy → Type} [FloatOps F]
-- ==== Proof.LabelRange.lean ====
/-
  What the precondition says of the labels: each names a column of its row.
-/
module

public import proofs.«01_k».proof.Defs
public import proofs.«01_k».proof.Proof.Gen.Pre_label_in_row
public import Idealize.ShloMosaic.Lib.ReduceAll

@[expose] public section

noncomputable section

namespace Cert.Proof.LabelRange

open Idealize.ShloMosaic Cert.Pre_label_in_row Cert.Pre_label_in_row.Gen

variable {F : FTy → Type} [FloatOps F]

/-- Where `(0 ≤ label) & (label < 32768)` is all ones, every label is below 32768 as a natural number. -/
theorem label_lt (x : FVec F S128x32768 .f32) (l : IVec S128 32) (h : Cert.Pre_label_in_row.fn x l = fun _ => 1#1) (j : S128.Idx) :
    (l j).toNat < 32768 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  have key : ∀ v : BitVec 32, IntOp.andi (IntOp.cmpi .sge v 0#32) (IntOp.cmpi .slt v 32768#32) = 1#1 → v.toNat < 32768 := by
    intro v e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  have e := congrFun h (Shape.Idx.first (by decide))
  simp only [Cert.Pre_label_in_row.fn] at e
  haveI : Subsingleton S_.Idx := ⟨fun a b => funext fun i => i.elim0⟩
  exact key _ (Host.reduce_andi_all _ _ _ _ _ e j)

end Cert.Proof.LabelRange

end
-- ==== Proof.KernelIdealRun.Setup.lean ====
/-
  The program as its launch sees it, and the ghost state of its proof: the handshakes between the TensorCore and the
  SparseCores, the grid pipeline's rounds, and the counters the copies take their tokens from.
-/
module

public import proofs.«01_k».proof.Defs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Pipeline.RegionsLoop
public import Idealize.ShloMosaic.Lib.Pipeline.ValueKit
public import Idealize.ShloMosaic.Lib.Tactic

@[expose] public section

noncomputable section

namespace Cert.Proof.KernelIdealRun

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The labels of the printed program below the SparseCore calls: the grid pipeline's. -/
abbrev ΛP : Labels := Pipeline.Sig Λ₀ (Fin 1) fun p => (pcfgs (F := F) p).Adm
/-- The SparseCore call's configuration. -/
abbrev K : SparseCore.Cfg τ sig (ΛP (F := F)) 1 := sc (F := F)
theorem nSub_zero : (K (F := F)).nSub 0 = 16 := rfl
theorem nCore_zero : (K (F := F)).nCore 0 = 2 := rfl
/-- The kernels' bodies under the pipeline's labels. -/
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The SparseCore call's layout facts, decided. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The handshakes' rounds. -/
abbrev UH : Type := URounds (GSem nD τ sig) ℕ
/-- The whole ghost state: the handshakes' rounds, the pipeline's rounds, the copies' counters. -/
abbrev UU : Type := UH × (UR sig nD τ × Counters)

/-- The model every assertion of the run is over. -/
abbrev MM (F : FTy → Type) : Type := MT nD τ sig (HIx 1) (Elt F) ℕ UU ℕ

/-- The handshakes' part of the ghost state. -/
abbrev EH : Emb UH (MM F) := embL
/-- The pipeline's part of the ghost state. -/
def EP : Emb (UR sig nD τ) (MM F) := (Emb.inl : Emb (UR sig nD τ) (UR sig nD τ × Counters)).trans embR

instance EP_landsIn : (EP : Emb (UR sig nD τ) (MM F)).LandsIn (upEmb : UEmb _ (MM F)) := by unfold EP; infer_instance

end Cert.Proof.KernelIdealRun

end
-- ==== Proof.KernelIdealRun.Gather.lean ====
/-
  The SparseCore kernel: eight of the thirty-two vector subcores each fetch sixteen of the flat row-and-label numbers,
  gather the scores those numbers name by one indirect copy, and write the sixteen scores out. Here: what each subcore
  is handed and brings back, with the gathered VALUES, and its run from the one to the other.
-/
module

public import proofs.«01_k».proof.Proof.KernelIdealRun.Setup

@[expose] public section

noncomputable section

namespace Cert.Proof.KernelIdealRun

open Cert.KernelIdeal Cert.KernelIdeal.Gen

open Idealize.ShloMosaic
open Idealize.ShloMosaic.Tactic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The flat scores, the flat numbers and the gathered scores, as buffers of device `d`. -/
abbrev xLoc (d : Dev nD) : Loc nD τ sig := (SparseCore.T d).loc main_v4
abbrev iLoc (d : Dev nD) : Loc nD τ sig := (SparseCore.T d).loc main_v3
abbrev oLoc (d : Dev nD) : Loc nD τ sig := (SparseCore.T d).loc main_v5

local notation "xV" => (Memref.whole Cert.KernelIdeal.main_v4_scv : Memref Cert.KernelIdeal.sig Kind.scVector Space.hbm Cert.KernelIdeal.S4194304 EltTy.f32)
local notation "iV" => (Memref.whole Cert.KernelIdeal.main_v3_scv : Memref Cert.KernelIdeal.sig Kind.scVector Space.hbm Cert.KernelIdeal.S128 EltTy.i32)
local notation "oV" => (Memref.whole Cert.KernelIdeal.main_v5_scv : Memref Cert.KernelIdeal.sig Kind.scVector Space.hbm Cert.KernelIdeal.S128 EltTy.f32)
local notation "sV" => (Memref.whole Cert.KernelIdeal.cc0_scratch0 : Memref Cert.KernelIdeal.sig Kind.scVector Space.vmem Cert.KernelIdeal.S16 EltTy.i32)
local notation "rV" => (Memref.whole Cert.KernelIdeal.cc0_scratch1 : Memref Cert.KernelIdeal.sig Kind.scVector Space.vmem Cert.KernelIdeal.S16 EltTy.f32)

/-- The rows subcore `i` of SparseCore `c` works on: sixteen of them, or none past the eighth. -/
def oSet (c : Fin 2) (i : Fin 16) : Finset S128.Idx := Finset.univ.filter fun r => (r 0).val / 16 = 2 * i.val + c.val

/-- Subcore `i` of SparseCore `c`'s share of the arrays every subcore reads. -/
abbrev shr (c : Fin 2) (i : Fin 16) : PosShare TreeShare :=
  pieceOf (pieceOf fullShare 2 (by decide) c) 16 (by decide) i

/-- The scores the numbers `fi` name among `fx`. -/
def gat {e : EltTy} (fx : S4194304.Idx → Elt F e) (fi : S128.Idx → BitVec 32) : S128.Idx → Elt F e := fun r =>
  fx fun a => ⟨(fi r).toNat % 4194304, match a with | 0 => Nat.mod_lt _ (by decide)⟩

variable (fx : (d : Dev nD) → Buf (Elt F) (xLoc d)) (fi : (d : Dev nD) → Buf (Elt F) (iLoc d)) (fo : (d : Dev nD) → Buf (Elt F) (oLoc d))

/-- What a subcore holds of the two arrays it reads, and its rows of the result at `f`. -/
abbrev tPts (d : Dev nD) (c : Fin 2) (i : Fin 16) (f : Buf (Elt F) (oLoc d)) : sProp 𝕄 :=
  iprop((xLoc d ↦{shr c i} fx d) ∗ (iLoc d ↦{shr c i} fi d) ∗ oLoc d ↦[oSet c i]{fullShare} f)

/-- The gathered scores. -/
abbrev gOf (d : Dev nD) : Buf (Elt F) (oLoc d) := gat (e := .f32) (fx d) (fi d)

variable [FloatOps F]

/-! ## The task -/

section Tile

variable (d : Dev nD) (L : grid0.Coords)

abbrev cV (L : grid0.Coords) : Fin τ.nSC := (L 0).castLE hcore0
abbrev jV (L : grid0.Coords) : Fin τ.nSub := (L 1).castLE hsub0
omit [FloatOps F] in
theorem bound_zero : grid0.bound 0 = 2 := rfl
omit [FloatOps F] in
theorem bound_one : grid0.bound 1 = 16 := rfl
abbrev cL (L : grid0.Coords) : Fin 2 := Fin.cast bound_zero (L 0)
abbrev jL (L : grid0.Coords) : Fin 16 := Fin.cast bound_one (L 1)

/-- A subcore works when it is one of the first eight. -/
theorem cond1_iff0 : ∀ c : Fin 2, ∀ i : Fin 16, (k0_cond1 (fun | 0 => c | 1 => i | ⟨_ + 2, h⟩ => absurd h (Nat.not_lt.2 (Nat.le_add_left _ _))) = 1#1) ↔ 2 * i.val + c.val < 8 := by decide

abbrev rowK (L : grid0.Coords) (h : k0_cond1 L = 1#1) : Rect S128 := Rect.unit (s := S128) (k0_off1 L) S16.size (k0_off1_inb L h)
/-- The sixteen numbers and the sixteen rows of the result as the task addresses them. -/
abbrev iK (L : grid0.Coords) (h : k0_cond1 L = 1#1) : Memref sig .scVector .hbm S16 .i32 := (iV).slice (rowK L h) (fun _ => rfl)
abbrev oK (L : grid0.Coords) (h : k0_cond1 L = 1#1) : Memref sig .scVector .hbm S16 .f32 := (oV).slice (rowK L h) (fun _ => rfl)
abbrev xAllK : Memref sig .scVector .hbm S4194304 .f32 := (xV).slice (Rect.unit (s := S4194304) ![0] S4194304.size inb_S4194304_S4194304_0) (fun _ => rfl)

omit [FloatOps F] in
theorem emb_iK (h : k0_cond1 L = 1#1) (x : S16.Idx) : (((iK L h).view.emb x : S128.Idx) 0).val = 32 * (L 1).val + 16 * (L 0).val + (x 0).val := by
  show k0_off1 L 0 + 1 * (x 0).val = _
  rw [k0_off1_eq]; simp
omit [FloatOps F] in
theorem emb_oK (h : k0_cond1 L = 1#1) (x : S16.Idx) : (((oK L h).view.emb x : S128.Idx) 0).val = 32 * (L 1).val + 16 * (L 0).val + (x 0).val := by
  show k0_off1 L 0 + 1 * (x 0).val = _
  rw [k0_off1_eq]; simp
omit [FloatOps F] in
theorem emb_eq (h : k0_cond1 L = 1#1) (x : S16.Idx) : ((iK L h).view.emb x : S128.Idx) = (oK L h).view.emb x := rfl

omit [FloatOps F] in
theorem set_oK (h : k0_cond1 L = 1#1) : (oK L h).view.set = oSet (cL L) (jL L) := by
  ext r
  constructor
  · intro hr
    obtain ⟨x, rfl⟩ := View.exists_emb_of_mem_set _ hr
    have hx : (x 0).val < 16 := (x 0).isLt
    simp only [oSet, Finset.mem_filter, Finset.mem_univ, true_and]
    rw [emb_oK]
    show _ = 2 * (L 1).val + (L 0).val
    omega
  · intro hr
    simp only [oSet, Finset.mem_filter, Finset.mem_univ, true_and] at hr
    have hr' : (r 0).val / 16 = 2 * (L 1).val + (L 0).val := hr
    let x : S16.Idx := fun a => ⟨(r 0).val % 16, match a with | 0 => Nat.mod_lt _ (by decide)⟩
    have e : (oK L h).view.emb x = r := by
      funext a
      match a with
      | 0 =>
        apply Fin.ext
        refine (emb_oK L h x).trans ?_
        show 32 * (L 1).val + 16 * (L 0).val + (r 0).val % 16 = (r 0).val
        omega
    rw [← e]; exact View.emb_mem_set _ _

abbrev cAcell (d : Dev nD) (c : Fin τ.nSC) (i : Fin τ.nSub) : GSem nD τ sig := (V d c i, .dma cc0_scratch2.sem)
abbrev cBcell (d : Dev nD) (c : Fin τ.nSC) (i : Fin τ.nSub) : GSem nD τ sig := (V d c i, .dma cc0_scoped0.sem)
abbrev cCcell (d : Dev nD) (c : Fin τ.nSC) (i : Fin τ.nSub) : GSem nD τ sig := (V d c i, .dma cc0_scoped1.sem)

omit [FloatOps F] in
/-- The three semaphores of the task are among the subcore's own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scratch2.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scoped0.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- Every number names a score. -/
def InRange : Prop := ∀ (d : Dev nD) (j : S128.Idx), (fi d j : BitVec 32).toNat < 4194304

omit [FloatOps F] in
/-- What the fetch of the numbers landed, read back, is the task's sixteen numbers. -/
theorem list_read (h : k0_cond1 L = 1#1) (fs : Buf (Elt F) ((V d (cV L) (jV L)).loc cc0_scratch0)) (pay : S16.Idx → Elt F .i32)
    (hpay : pay = (iK L h).view.read (Elt F) (fi d)) (x : S16.Idx) :
    (sV).view.read (Elt F) (View.write (Elt F) (sV).view fs pay Finset.univ) x = (fi d : S128.Idx → BitVec 32) ((iK L h).view.emb x) := by
  subst hpay
  rw [View.write_whole_univ]
  simp only [Memref.view_whole, View.read_whole]
  exact (View.read_apply _ _).trans (cast_eq _ _)

omit [FloatOps F] in
/-- The numbers the indirect copy reads are in range. -/
theorem inb_of_range (hin : InRange (F := F) fi) (h : k0_cond1 L = 1#1) (fs : Buf (Elt F) ((V d (cV L) (jV L)).loc cc0_scratch0)) (pay : S16.Idx → Elt F .i32)
    (hpay : pay = (iK L h).view.read (Elt F) (fi d)) :
    ∀ x, ((sV).view.read (Elt F) (View.write (Elt F) (sV).view fs pay Finset.univ) x).toNat < S4194304.size gathers_S4194304_S16.axis := by
  intro x
  rw [list_read fi d L h fs pay hpay x]
  exact hin d _

omit [FloatOps F] in
theorem symm_S16 (x : S16.Idx) (k : Fin S16.numel) (hk : k.val = (x 0).val) : S16.rowMajor.symm k = x := by
  rw [Equiv.symm_apply_eq]
  apply Fin.ext
  rw [hk]
  exact (Shape.rowMajor_val_one x).symm

omit [FloatOps F] in
/-- What the indirect copy brings at entry `x`: the score the task's number `x` names. -/
theorem payload_eq (h : k0_cond1 L = 1#1) (hin : InRange (F := F) fi) (l : S16.Idx → Elt F .i32)
    (hl : ∀ x, l x = (fi d : S128.Idx → BitVec 32) ((iK L h).view.emb x)) (hn) (hb) (x : S16.Idx) :
    SparseCore.gatherPayload gathers_S4194304_S16 (View.read (Elt F) (xAllK).view (fx d)) (SparseCore.rows (F := F) l hn hb) x
      = gOf fx fi d ((oK L h).view.emb x) := by
  unfold SparseCore.gatherPayload
  refine (View.read_apply _ _).trans ((cast_eq _ _).trans ?_)
  show (fx d : S4194304.Idx → Elt F .f32) _ = (fx d : S4194304.Idx → Elt F .f32) _
  congr 1
  funext a
  match a with
  | 0 =>
    apply Fin.ext
    show 0 + 1 * ((gathers_S4194304_S16.idx (SparseCore.rows (F := F) l hn hb) x) gathers_S4194304_S16.axis).val = ((fi d : S128.Idx → BitVec 32) ((iK L h).view.emb x)).toNat % 4194304
    rw [Shape.Gathers.idx_axis, Nat.mod_eq_of_lt (hin d _)]
    show 0 + 1 * (l (S16.rowMajor.symm _) : BitVec 32).toNat = _
    rw [symm_S16 x (Fin.cast hn.symm (x gathers_S4194304_S16.axis')) rfl, hl x]
    omega

omit [FloatOps F] in
/-- The rows of the result after the write-out hold the gathered scores. -/
theorem written_eq (h : k0_cond1 L = 1#1) (f : Buf (Elt F) (oLoc d)) (pay : S16.Idx → Elt F .f32)
    (hp : ∀ x, pay x = gOf fx fi d ((oK L h).view.emb x)) :
    ((oK L h).view.loc (V d (cV L) (jV L)) ↦[(oK L h).view.set]{fullShare} (oK L h).view.writes (Elt F) f [⟨Rect.whole S16, pay⟩] : sProp 𝕄)
      = oLoc d ↦[oSet (cL L) (jL L)]{fullShare} gOf fx fi d := by
  rw [← set_oK L h]
  refine pointsTo_congr fun r hr => ?_
  obtain ⟨x, rfl⟩ := View.exists_emb_of_mem_set _ hr
  rw [← hp x]
  have e := View.read_writes_cons_emb (v := (oK L h).view) (f := f) (Val := Elt F) (Rect.whole S16) pay [] x
  rw [Rect.emb_whole_apply] at e
  rw [← e]
  exact ((View.read_apply _ _).trans (cast_eq _ _)).symm

set_option maxHeartbeats 4000000 in
/-- A working subcore: the fetch of its numbers, the indirect copy of the scores they name, the write-out. -/
theorem tile_work (hF : (K (F := F)).Facts) (hin : InRange (F := F) fi) (h : k0_cond1 L = 1#1) (O : CellTallies nD τ sig (HIx 1)) (W : Waits sig (HIx 1)) (hO : ∀ g, O g none = 0) :
    iprop(levAts (K (F := F)).L (K (F := F)).lev ∗ emp
        ∗ tPts fx fi d (cL L) (jL L) (fo d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L xV (Memref.isWhole_whole _) iV (Memref.isWhole_whole _) oV (Memref.isWhole_whole _)
            sV (Memref.isWhole_whole _) rV (Memref.isWhole_whole _) cc0_scratch2 cc0_scoped0 cc0_scoped1)
          fun _ => iprop(tPts fx fi d (cL L) (jL L) (gOf fx fi d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  simp only [dif_pos h]
  rw [(K (F := F)).scopedBufs_V hF d (cV L) (jV L), SparseCore.Cfg.scopedSems0_V (Val := Elt F) d (cV L) (jV L), ownSems0_V, ownBufs_V]
  iintro ⟨#Hlv, -, ⟨Hx, Hi, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hx' := (Entails.of_eq (show (xLoc d ↦{shr (cL L) (jL L)} fx d : sProp 𝕄) = (xV).view.loc (V d (cV L) (jV L)) ↦{shr (cL L) (jL L)} fx d from rfl)) $$ Hx
  ihave Hi' := (Entails.of_eq (show (iLoc d ↦{shr (cL L) (jL L)} fi d : sProp 𝕄) = (iV).view.loc (V d (cV L) (jV L)) ↦{shr (cL L) (jL L)} fi d from rfl)) $$ Hi
  ihave Ho' := (Entails.of_eq (show (oLoc d ↦[oSet (cL L) (jL L)]{fullShare} fo d : sProp 𝕄)
    = (oK L h).view.loc (V d (cV L) (jV L)) ↦[(oK L h).view.set]{fullShare} fo d by rw [set_oK])) $$ Ho
  ihave Hs' := (Entails.of_eq (show ((V d (cV L) (jV L)).loc cc0_scratch0 ↦{fullShare} fs : sProp 𝕄) = (sV).view.loc (V d (cV L) (jV L)) ↦{fullShare} fs from rfl)) $$ Hs
  ihave Hr' := (Entails.of_eq (show ((V d (cV L) (jV L)).loc cc0_scratch1 ↦{fullShare} fr : sProp 𝕄) = (rV).view.loc (V d (cV L) (jV L)) ↦{fullShare} fr from rfl)) $$ Hr
  sl_exec
  -- the indirect copy over the fetched list: the numbers are in range
  ihave Hxs := (pointsTo_split_subset (q := shr (cL L) (jL L)) (f := fx d) (S := Finset.univ) (Finset.subset_univ (xAllK).view.set)).1 $$ Hx'
  icases Hxs with ⟨Hxs, Hxr⟩
  have hrs : (rV).view.set = Finset.univ := View.set_whole _
  have hss : (sV).view.set = Finset.univ := View.set_whole _
  ihave Hr'' := (Entails.of_eq (show ((rV).view.loc (V d (cV L) (jV L)) ↦{fullShare} fr : sProp 𝕄)
      = (rV).view.loc (V d (cV L) (jV L)) ↦[(rV).view.set]{fullShare} fr by rw [hrs])) $$ Hr'
  ihave Hs'' := (Entails.of_eq (show ((sV).view.loc (V d (cV L) (jV L)) ↦{fullShare} View.write (Elt F) (sV).view fs (tile_work.sl.dma0 fi d L h) Finset.univ : sProp 𝕄)
      = (sV).view.loc (V d (cV L) (jV L)) ↦[(sV).view.set]{fullShare} View.write (Elt F) (sV).view fs (tile_work.sl.dma0 fi d L h) Finset.univ
      by rw [hss])) $$ Hs'
  have hN : ∀ g : S4194304.Gathers 0 S16, ∑ j, ((rV).slice (S16.rowRect g.axis' j) (S16.stride_rowRect g.axis' j)).view.dmaCredit
      = (rV).view.dmaCredit := by decide
  iapply (SparseCore.wp_indirectGatherLocal countersEmb 𝒱₀ (V d (cV L) (jV L)) none (hg := gathers_S4194304_S16) (default : HIx 1)
      (rV).view.dmaCredit (hN _) (by decide) (inb_of_range fi d L hin h fs _ rfl)) $$ [Hxs Hr'' Hs'' HsemA]
  · isplitl [Hxs]; · iexact Hxs
    isplitl [Hr'']; · iexact Hr''
    isplitl [Hs'']; · iexact Hs''
    iexact HsemA
  iintro Hfl
  sl_exec
  -- its wait
  iapply (Transfers.wp_waitLocalO countersEmb 𝒱₀ (V d (cV L) (jV L)) none (default : HIx 1) (rfl : (rV).view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemA, HO⟩
  ihave Hx' := (pointsTo_split_subset (q := shr (cL L) (jL L)) (f := fx d) (S := Finset.univ) (Finset.subset_univ (xAllK).view.set)).2 $$ [Hxs Hxr]; · isplitl [Hxs] <;> iassumption
  ihave Hr3 := (Entails.of_eq (show ((rV).view.loc (V d (cV L) (jV L)) ↦[(rV).view.set]{fullShare} _ : sProp 𝕄)
      = (rV).view.loc (V d (cV L) (jV L)) ↦{fullShare} _ by rw [hrs])) $$ Hr'
  ihave Hs3 := (Entails.of_eq (show ((sV).view.loc (V d (cV L) (jV L)) ↦[(sV).view.set]{fullShare} _ : sProp 𝕄)
      = (sV).view.loc (V d (cV L) (jV L)) ↦{fullShare} _ by rw [hss])) $$ Hs'
  sl_exec
  sl_step
  ihave Ho := (Entails.of_eq (written_eq fx fi d L h (fo d) _ (fun x => by
    unfold tile_work.sl.dma0_1
    rw [View.write_whole_univ]
    simp only [Memref.view_whole, View.read_whole]
    exact payload_eq fx fi d L h hin _ (fun y => list_read fi d L h fs _ rfl y) _ _ x))) $$ Ho'
  isplitl [Hx' Hi' Ho]
  · isplitl [Hx']; · iexact Hx'
    isplitl [Hi']; · iexact Hi'
    iexact Ho
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-- A subcore past the eighth does nothing: it has no row. -/
theorem tile_idle (h : ¬ k0_cond1 L = 1#1) (hE : oSet (cL L) (jL L) = ∅) (O : CellTallies nD τ sig (HIx 1)) (W : Waits sig (HIx 1)) :
    iprop(levAts (K (F := F)).L (K (F := F)).lev ∗ emp
        ∗ tPts fx fi d (cL L) (jL L) (fo d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L xV (Memref.isWhole_whole _) iV (Memref.isWhole_whole _) oV (Memref.isWhole_whole _)
            sV (Memref.isWhole_whole _) rV (Memref.isWhole_whole _) cc0_scratch2 cc0_scoped0 cc0_scoped1)
          fun _ => iprop(tPts fx fi d (cL L) (jL L) (gOf fx fi d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0__sc_gather_body_eq_skeleton]; unfold cc0__sc_gather_body_skel
  simp only [dif_neg h]
  rw [show tPts fx fi d (cL L) (jL L) (gOf fx fi d) = tPts fx fi d (cL L) (jL L) (fo d) by
    unfold tPts; rw [pointsTo_congr (ℓ := oLoc d) (I := oSet (cL L) (jL L)) (fun r hr => absurd (hE ▸ hr) (Finset.notMem_empty r) : ∀ r ∈ oSet (cL L) (jL L), gOf fx fi d r = fo d r)]]
  iintro ⟨-, -, Hp, Hb, Hs, HO⟩
  sl_step
  isplitl [Hp]; · iexact Hp
  isplitl [Hb]; · iexact Hb
  isplitl [Hs]; · iexact Hs
  iexists W; isplitr; · ipureintro; exact fun p hp => .inl hp
  iexact HO

/-- The task on any subcore: its rows of the result brought back at the gathered scores. -/
theorem tile_body (hF : (K (F := F)).Facts) (hin : InRange (F := F) fi) (hw : (k0_cond1 L = 1#1) ↔ 2 * (L 1).val + (L 0).val < 8) (O : CellTallies nD τ sig (HIx 1)) (W : Waits sig (HIx 1)) (hO : ∀ g, O g none = 0) :
    iprop(levAts (K (F := F)).L (K (F := F)).lev ∗ emp
        ∗ tPts fx fi d (cL L) (jL L) (fo d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0__sc_gather_body L xV (Memref.isWhole_whole _) iV (Memref.isWhole_whole _) oV (Memref.isWhole_whole _)
            sV (Memref.isWhole_whole _) rV (Memref.isWhole_whole _) cc0_scratch2 cc0_scoped0 cc0_scoped1)
          fun _ => iprop(tPts fx fi d (cL L) (jL L) (gOf fx fi d)
            ∗ scopedBufs (V d (cV L) (jV L)) ∗ scopedSems0 (V d (cV L) (jV L))
            ∗ ∃ W', ⌜∀ p ∈ W', p ∈ W ∨ p.2 = none⌝ ∗ owes (V d (cV L) (jV L)) O W') := by
  by_cases h : k0_cond1 L = 1#1
  · exact tile_work fx fi fo d L hF hin h O W hO
  · refine tile_idle fx fi fo d L h ?_ O W
    ext r
    simp only [oSet, Finset.mem_filter, Finset.mem_univ, true_and, Finset.notMem_empty, iff_false]
    intro e
    have e' : (r 0).val / 16 = 2 * (L 1).val + (L 0).val := e
    have hr : (r 0).val < 128 := (r 0).isLt
    have := mt hw.mpr h
    omega

end Tile

/-! ## What the handshakes carry -/

/-- What the launch hands SparseCore `c`: its share of the two arrays read, its rows of the result at `f`. -/
abbrev cPts (d : Dev nD) (c : Fin 2) (f : Buf (Elt F) (oLoc d)) : sProp 𝕄 :=
  iprop((xLoc d ↦{pieceOf fullShare 2 (by decide) c} fx d) ∗ (iLoc d ↦{pieceOf fullShare 2 (by decide) c} fi d)
    ∗ oLoc d ↦[Finset.univ.biUnion (oSet c)]{fullShare} f)

/-- The call takes each SparseCore its part and each subcore its own, and brings them back with the rows gathered. -/
def P : (K (F := F)).Pay (nD := nD) (Val := Elt F) (Name := ℕ) (U := UU) where
  st := fun q d c => match q with | 0 => cPts fx fi d (Fin.cast nCore_zero c) (fo d)
  dn := fun q d c => match q with | 0 => cPts fx fi d (Fin.cast nCore_zero c) (gOf fx fi d)
  go := fun q d c i => match q with | 0 => tPts fx fi d (Fin.cast nCore_zero c) (Fin.cast nSub_zero i) (fo d)
  td := fun q d c i => match q with | 0 => tPts fx fi d (Fin.cast nCore_zero c) (Fin.cast nSub_zero i) (gOf fx fi d)
  x := fun _ _ => iprop(emp)

instance P_storable : (P (F := F) fx fi fo).IsStorable where
  st q d c := match q with
    | 0 => (inferInstance : BI.Storable (upEmb : UEmb _ 𝕄) (cPts fx fi d (Fin.cast nCore_zero c) (fo d)))
  dn q d c := match q with
    | 0 => (inferInstance : BI.Storable (upEmb : UEmb _ 𝕄) (cPts fx fi d (Fin.cast nCore_zero c) (gOf fx fi d)))
  go q d c i := match q with
    | 0 => (inferInstance : BI.Storable (upEmb : UEmb _ 𝕄) (tPts fx fi d (Fin.cast nCore_zero c) (Fin.cast nSub_zero i) (fo d)))
  td q d c i := match q with
    | 0 => (inferInstance : BI.Storable (upEmb : UEmb _ 𝕄) (tPts fx fi d (Fin.cast nCore_zero c) (Fin.cast nSub_zero i) (gOf fx fi d)))

/-! ## The obligation -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__sc_gather_body (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every subcore's task runs. -/
theorem tileObl (hF : (K (F := F)).Facts) (hin : InRange (F := F) fi) : (K (F := F)).TileObl (D (F := F)) 𝒱 (P fx fi fo) v₀ 0 := by
  intro d c i O W hO _ _
  simp only [show (P fx fi fo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body fx fi fo d (coordsV ⟨_, hci.1⟩ ⟨_, hci.2⟩) hF hin (cond1_iff0 ⟨_, hci.1⟩ ⟨_, hci.2⟩) O W hO).trans (wp_mono frame _ _ fun _ => obl_post)

/-! ## The operands split over the subcores and join again -/

omit [FloatOps F] in
theorem oSet_disjoint (c : Fin 2) : ∀ i ∈ (Finset.univ : Finset (Fin 16)), ∀ j ∈ (Finset.univ : Finset (Fin 16)), i ≠ j → Disjoint (oSet c i) (oSet c j) := by
  intro i _ j _ h
  rw [Finset.disjoint_left]
  intro r hi hj
  simp only [oSet, Finset.mem_filter, Finset.mem_univ, true_and] at hi hj
  exact h (Fin.ext (by omega))

omit [FloatOps F] in
theorem oCore_disjoint : ∀ c ∈ (Finset.univ : Finset (Fin 2)), ∀ c' ∈ (Finset.univ : Finset (Fin 2)), c ≠ c' →
    Disjoint (Finset.univ.biUnion (oSet c)) (Finset.univ.biUnion (oSet c')) := by
  intro c _ c' _ h
  rw [Finset.disjoint_left]
  intro r hi hj
  simp only [oSet, Finset.mem_biUnion, Finset.mem_filter, Finset.mem_univ, true_and] at hi hj
  obtain ⟨i, hi⟩ := hi
  obtain ⟨j, hj⟩ := hj
  exact h (Fin.ext (by omega))

omit [FloatOps F] in
theorem oCore_cover : (Finset.univ : Finset (Fin 2)).biUnion (fun c => Finset.univ.biUnion (oSet c)) = Finset.univ := by
  ext r
  have hr : (r 0).val < 128 := (r 0).isLt
  simp only [oSet, Finset.mem_biUnion, Finset.mem_filter, Finset.mem_univ, true_and, iff_true]
  exact ⟨⟨(r 0).val / 16 % 2, by omega⟩, ⟨(r 0).val / 16 / 2, by omega⟩, by show _ = 2 * ((r 0).val / 16 / 2) + (r 0).val / 16 % 2; omega⟩

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- A SparseCore's part is its subcores'. -/
theorem cPts_eq (d : Dev nD) (c : Fin 2) (f : Buf (Elt F) (oLoc d)) :
    cPts fx fi d c f = bigSep Finset.univ fun i : Fin 16 => tPts fx fi d c i f := by
  unfold cPts tPts
  rw [bigSep_sep', bigSep_sep', ← pointsTo_piecesOf, ← pointsTo_piecesOf, pointsTo_biUnion Finset.univ (ℓ := oLoc d) (oSet c) (oSet_disjoint c)]

omit [FloatOps F] in
/-- The three arrays whole are the two SparseCores' parts. -/
theorem all_eq (d : Dev nD) (f : Buf (Elt F) (oLoc d)) :
    (iprop((xLoc d ↦{fullShare} fx d) ∗ (iLoc d ↦{fullShare} fi d) ∗ oLoc d ↦{fullShare} f) : sProp 𝕄)
      = bigSep Finset.univ fun c : Fin 2 => cPts fx fi d c f := by
  unfold cPts
  rw [bigSep_sep', bigSep_sep', ← pointsTo_piecesOf, ← pointsTo_piecesOf,
    ← pointsTo_biUnion Finset.univ (ℓ := oLoc d) (fun c => Finset.univ.biUnion (oSet c)) oCore_disjoint, oCore_cover]

theorem vecSplit : (K (F := F)).VecSplit' (P fx fi fo) 0 := by
  intro d c
  show cPts fx fi d (Fin.cast nCore_zero c) (fo d) ⊢ |={Set.univ}=> iprop(
      (bigSep Finset.univ fun i : Fin ((K (F := F)).nSub 0) => tPts fx fi d (Fin.cast nCore_zero c) (Fin.cast nSub_zero i) (fo d))
      ∗ ((bigSep Finset.univ fun i : Fin ((K (F := F)).nSub 0) => tPts fx fi d (Fin.cast nCore_zero c) (Fin.cast nSub_zero i) (gOf fx fi d))
          -∗ cPts fx fi d (Fin.cast nCore_zero c) (gOf fx fi d)))
  rw [bigSep_tasks (F := F) (fun i => tPts fx fi d (Fin.cast nCore_zero c) i (fo d)),
    bigSep_tasks (F := F) (fun i => tPts fx fi d (Fin.cast nCore_zero c) i (gOf fx fi d)), ← cPts_eq, ← cPts_eq]
  iintro H; imodintro
  isplitl [H]; · iexact H
  iintro H; iexact H

theorem st0_eq (d : Dev nD) : (bigSep Finset.univ fun c : Fin ((K (F := F)).nCore 0) => (P fx fi fo).st 0 d c)
    = iprop((xLoc d ↦{fullShare} fx d) ∗ (iLoc d ↦{fullShare} fi d) ∗ oLoc d ↦{fullShare} fo d) :=
  (bigSep_cores (F := F) (fun c => cPts fx fi d c (fo d))).trans (all_eq fx fi d (fo d)).symm
theorem dn0_eq (d : Dev nD) : (bigSep Finset.univ fun c : Fin ((K (F := F)).nCore 0) => (P fx fi fo).dn 0 d c)
    = iprop((xLoc d ↦{fullShare} fx d) ∗ (iLoc d ↦{fullShare} fi d) ∗ oLoc d ↦{fullShare} gOf fx fi d) :=
  (bigSep_cores (F := F) (fun c => cPts fx fi d c (gOf fx fi d))).trans (all_eq fx fi d (gOf fx fi d)).symm

end Cert.Proof.KernelIdealRun

end
-- ==== Proof.KernelIdealRun.Count.lean ====
/-
  The TensorCore kernel: a grid of sixteen points, each over one block of 2048 columns of the scores. At each point it
  adds, to a running count per row held in a scratch buffer, the number of columns of the block that come before the
  row's label in the descending order; the last point writes out the share of the rows whose count is below five.
  Here: the body run once at symbolic buffers, the running count in closed form, and the kernel as one segment of
  @main, entered at any contents `V` of the arrays and left at `V` updated at the result.
-/
module

public import proofs.«01_k».proof.Proof.KernelIdealRun.Setup

@[expose] public section

noncomputable section

namespace Cert.Proof.KernelIdealRun

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig (HIx 1) (Elt F) ℕ UU ℕ

/-- The contents of memref `M`'s buffer on core `c`, and that buffer held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A grid point's number, read off its coordinates. -/
theorem coords_val : ∀ t : Fin grid1.N, (grid1.coords t 0).val = t.val := by decide

theorem cond2_iff : ∀ t : Fin grid1.N, (k1_cond2 (grid1.coords t) = 1#1) ↔ t.val = 15 := by decide

theorem cond1_iff : ∀ t : Fin grid1.N,
    (Scalar.cmpi .ne (Scalar.extui (Scalar.cmpi .eq (BitVec.ofNat 32 (grid1.coords t 0).val) 0#32)) 0#32 = 1#1) ↔ t.val = 0 := by decide

theorem hz : (![0, 0] : Fin 2 → Nat) = fun _ => 0 := funext fun a => by fin_cases a <;> rfl

section Body

variable (c : Dev nD) (i : grid1.Coords)
  (M0 : Memref sig .tc .vmem S128x1 .f32) (h0 : M0.IsWhole) (M1 : Memref sig .tc .vmem S128x1 .i32) (h1 : M1.IsWhole)
  (M2 : Memref sig .tc .vmem S128x2048 .f32) (h2 : M2.IsWhole) (M3 : Memref sig .tc .vmem S1x1 .f32) (h3 : M3.IsWhole)
  (M4 : Memref sig .tc .vmem S128x1 .i32) (h4 : M4.IsWhole)
  (f0 : Bf (F := F) c M0) (f1 : Bf (F := F) c M1) (f2 : Bf (F := F) c M2) (f3 : Bf (F := F) c M3) (f4 : Bf (F := F) c M4)

/-- A point that is neither the first nor the last: the running count moves on, the result's buffer stays. -/
theorem body_mid (hc1 : ¬ (Scalar.cmpi .ne (Scalar.extui (Scalar.cmpi .eq (BitVec.ofNat 32 (i 0).val) 0#32)) 0#32 = 1#1))
    (hc2 : ¬ k1_cond2 i = 1#1) (E : Set ℕ) (Q : PUnit → sProp 𝕄) :
    iprop(pt c M0 f0 ∗ pt c M1 f1 ∗ pt c M2 f2 ∗ pt c M3 f3 ∗ pt c M4 f4
        ∗ (iprop(pt c M0 f0 ∗ pt c M1 f1 ∗ pt c M2 f2 ∗ pt c M3 f3
            ∗ ∃ f4', ⌜M4.view.read (Elt F) f4' = k1_pay2 i (M2.view.read (Elt F) f2) (M0.view.read (Elt F) f0) (M1.view.read (Elt F) f1) (M4.view.read (Elt F) f4)⌝
                ∗ pt c M4 f4') -∗ Q ⟨⟩))
      ⊢ wp frame (wpE (defs₀ (F := F)) Variants.none c none) E (cc1__count_body i M0 h0 M1 h1 M2 h2 M3 h3 M4 h4) Q := by
  simp only [cc1__count_body_eq_skeleton]; unfold cc1__count_body_skel
  simp only [dif_neg hc1, dif_neg hc2]
  iintro ⟨H0, H1, H2, H3, H4, Hk⟩
  sl_exec!
  sl_step
  iapply Hk
  isplitl [H0]; · iexact H0
  isplitl [H1]; · iexact H1
  isplitl [H2]; · iexact H2
  isplitl [H3]; · iexact H3
  iexists _
  isplitr
  swap; · iexact H4
  ipureintro
  sl_unfold_words
  rw [View.read_writes_junk_eq_canon, View.canon_cons_unit_zero (S := S128x1) hz]
  simp only [View.readAt_eq_ld, View.ld_unit_zero (S := S128x1) hz, View.ld_unit_zero (S := S128x2048) hz]

/-- The first point: the running count starts at zero, whatever the scratch buffer held. -/
theorem body_first (hc1 : Scalar.cmpi .ne (Scalar.extui (Scalar.cmpi .eq (BitVec.ofNat 32 (i 0).val) 0#32)) 0#32 = 1#1)
    (hc2 : ¬ k1_cond2 i = 1#1) (E : Set ℕ) (Q : PUnit → sProp 𝕄) :
    iprop(pt c M0 f0 ∗ pt c M1 f1 ∗ pt c M2 f2 ∗ pt c M3 f3 ∗ pt c M4 f4
        ∗ (iprop(pt c M0 f0 ∗ pt c M1 f1 ∗ pt c M2 f2 ∗ pt c M3 f3
            ∗ ∃ f4', ⌜M4.view.read (Elt F) f4' = k1_pay2 i (M2.view.read (Elt F) f2) (M0.view.read (Elt F) f0) (M1.view.read (Elt F) f1) k1_pay1⌝
                ∗ pt c M4 f4') -∗ Q ⟨⟩))
      ⊢ wp frame (wpE (defs₀ (F := F)) Variants.none c none) E (cc1__count_body i M0 h0 M1 h1 M2 h2 M3 h3 M4 h4) Q := by
  simp only [cc1__count_body_eq_skeleton]; unfold cc1__count_body_skel
  simp only [dif_pos hc1, dif_neg hc2]
  iintro ⟨H0, H1, H2, H3, H4, Hk⟩
  sl_exec!
  sl_step
  iapply Hk
  isplitl [H0]; · iexact H0
  isplitl [H1]; · iexact H1
  isplitl [H2]; · iexact H2
  isplitl [H3]; · iexact H3
  iexists _
  isplitr
  swap; · iexact H4
  ipureintro
  sl_unfold_words
  rw [View.read_writes_junk_eq_canon, View.canon_cons_unit_zero (S := S128x1) hz]
  simp only [View.readCov_unit_zero (S := S128x1) _ hz, View.readAt_eq_ld, View.ld_unit_zero (S := S128x1) hz, View.ld_unit_zero (S := S128x2048) hz]

/-- The last point: the running count moves on and the result is written from it. -/
theorem body_last (hc1 : ¬ (Scalar.cmpi .ne (Scalar.extui (Scalar.cmpi .eq (BitVec.ofNat 32 (i 0).val) 0#32)) 0#32 = 1#1))
    (hc2 : k1_cond2 i = 1#1) (E : Set ℕ) (Q : PUnit → sProp 𝕄) :
    iprop(pt c M0 f0 ∗ pt c M1 f1 ∗ pt c M2 f2 ∗ pt c M3 f3 ∗ pt c M4 f4
        ∗ (iprop(pt c M0 f0 ∗ pt c M1 f1 ∗ pt c M2 f2
            ∗ (∃ f3', ⌜M3.view.read (Elt F) f3' = k1_pay3 (k1_pay2 i (M2.view.read (Elt F) f2) (M0.view.read (Elt F) f0) (M1.view.read (Elt F) f1) (M4.view.read (Elt F) f4))⌝
                ∗ pt c M3 f3')
            ∗ ∃ f4', ⌜M4.view.read (Elt F) f4' = k1_pay2 i (M2.view.read (Elt F) f2) (M0.view.read (Elt F) f0) (M1.view.read (Elt F) f1) (M4.view.read (Elt F) f4)⌝
                ∗ pt c M4 f4') -∗ Q ⟨⟩))
      ⊢ wp frame (wpE (defs₀ (F := F)) Variants.none c none) E (cc1__count_body i M0 h0 M1 h1 M2 h2 M3 h3 M4 h4) Q := by
  simp only [cc1__count_body_eq_skeleton]; unfold cc1__count_body_skel
  simp only [dif_neg hc1, dif_pos hc2]
  iintro ⟨H0, H1, H2, H3, H4, Hk⟩
  sl_exec!
  sl_step
  iapply Hk
  isplitl [H0]; · iexact H0
  isplitl [H1]; · iexact H1
  isplitl [H2]; · iexact H2
  isplitl [H3]
  · iexists _
    isplitr
    swap; · iexact H3
    ipureintro
    sl_unfold_words
    rw [View.read_writes_junk_eq_canon, View.canon_cons_unit_zero (S := S1x1) hz]
    simp only [View.readCov_unit_zero (S := S128x1) _ hz, View.readAt_eq_ld, View.ld_unit_zero (S := S128x1) hz, View.ld_unit_zero (S := S128x2048) hz]
  iexists _
  isplitr
  swap; · iexact H4
  ipureintro
  sl_unfold_words
  rw [View.read_writes_junk_eq_canon, View.canon_cons_unit_zero (S := S128x1) hz]
  simp only [View.readAt_eq_ld, View.ld_unit_zero (S := S128x1) hz, View.ld_unit_zero (S := S128x2048) hz]

end Body

/-- A whole buffer owned at what it reads: some contents reading that, the buffer held at them. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

variable (V : (c : Dev nD) → (b : Ref sig .tc) → Buf (Elt F) ((c : Thread nD τ).loc b))

/-- What the three fetched windows hold at point `t`: the gathered scores, the labels, the block of columns. -/
abbrev bV0 (c : Dev nD) (t : Fin cfg1.N) : Vec F S128x1 .f32 := ((cfg1.win 0).blk t).view.read (Elt F) (V c main_v6)
abbrev bV1 (c : Dev nD) (t : Fin cfg1.N) : Vec F S128x1 .i32 := ((cfg1.win 1).blk t).view.read (Elt F) (V c main_v7)
abbrev bV2 (c : Dev nD) (t : Fin cfg1.N) : Vec F S128x2048 .f32 := ((cfg1.win 2).blk t).view.read (Elt F) (V c main_arg0)

/-- The running count after `n` points: zero, then one block's count after another. -/
def acc (c : Dev nD) : ℕ → Vec F S128x1 .i32
  | 0 => k1_pay1
  | n + 1 => if h : n < cfg1.N then k1_pay2 (grid1.coords ⟨n, h⟩) (bV2 V c ⟨n, h⟩) (bV0 V c ⟨n, h⟩) (bV1 V c ⟨n, h⟩) (acc c n) else acc c n

theorem acc_zero (c : Dev nD) : acc V c 0 = k1_pay1 := rfl
theorem acc_succ (c : Dev nD) (t : Fin cfg1.N) :
    acc V c (t.val + 1) = k1_pay2 (grid1.coords t) (bV2 V c t) (bV0 V c t) (bV1 V c t) (acc V c t.val) := by
  rw [acc, dif_pos t.isLt]

/-- Between two points the scratch buffer holds the running count; before the first it holds anything. -/
def Φc (c : Dev nD) (n : ℕ) : sProp 𝕄 :=
  iprop(∃ f : Bf (F := F) c (Memref.whole cc1_scratch0), ⌜n ≠ 0 → (Memref.whole cc1_scratch0).view.read (Elt F) f = acc V c n⌝ ∗ pt c (Memref.whole cc1_scratch0) f)

/-- The proof data of the pipeline from contents `V`: the inputs stay, the result is what the last point writes. -/
def dat (c : Dev nD) : Dat τ (Elt F) (HIx 1) ℕ UU ℕ cfg1 c where
  A w := V c (Pipeline.arrRef spec1 w)
  after w t := match w with
    | ⟨0, _⟩ => bV0 V c t
    | ⟨1, _⟩ => bV1 V c t
    | ⟨2, _⟩ => bV2 V c t
    | ⟨3, _⟩ => k1_pay3 (acc V c (t.val + 1))
  Φ t := Φc V c t.val
  q _ := fullShare
  owed _ := 0

theorem before_0 (c : Dev nD) (t : Fin cfg1.N) (d) : (dat V c).before 0 t d = bV0 V c t :=
  ((dat V c).before_in_eq_fetched 0 rfl (fun _ => rfl) (fun _ _ _ => rfl) (fun _ => rfl) t d).trans rfl
theorem before_1 (c : Dev nD) (t : Fin cfg1.N) (d) : (dat V c).before 1 t d = bV1 V c t :=
  ((dat V c).before_in_eq_fetched 1 rfl (fun _ => rfl) (fun _ _ _ => rfl) (fun _ => rfl) t d).trans rfl
theorem before_2 (c : Dev nD) (t : Fin cfg1.N) (d) : (dat V c).before 2 t d = bV2 V c t :=
  ((dat V c).before_in_eq_fetched 2 rfl (fun _ => rfl) (fun _ _ _ => rfl) (fun _ => rfl) t d).trans rfl

theorem idle_3 (t : Fin cfg1.N) : cfg1.idle 3 (grid1.coords t) = !(k1_cond2 (grid1.coords t) == 1#1) := rfl

set_option maxHeartbeats 1000000 in
/-- The body at every point: the windows' buffers taken apart, the case of the point run, its contents named. -/
theorem body_obligation (c : Dev nD) : BodyObligation (dat V c) (defs₀ (F := F)) 𝒱₀ (none : HIx 1) Set.univ := fun t => by
  rw [bigSep_W1, bigSep_W1]
  have hN : cfg1.N = 16 := N_1
  have ht := t.isLt
  have hcv := coords_val t
  rw [show (dat V c).Φ t.castSucc = Φc V c t.val from rfl, show (dat V c).Φ t.succ = Φc V c (t.val + 1) from rfl,
    show (dat V c).owesAt none t.succ = (dat V c).owesAt none t.castSucc from rfl]
  have o0 := owns_pt (F := F) c (stage1_0 (cfg1.slots t 0)) (hstage1_0 ((cfg1.slots t 0).cast nbuf1_0))
  have o1 := owns_pt (F := F) c (stage1_1 (cfg1.slots t 1)) (hstage1_1 ((cfg1.slots t 1).cast nbuf1_1))
  have o2 := owns_pt (F := F) c (stage1_2 (cfg1.slots t 2)) (hstage1_2 ((cfg1.slots t 2).cast nbuf1_2))
  have o3 := owns_pt (F := F) c (stage1_3 (cfg1.slots t 3)) (hstage1_3 ((cfg1.slots t 3).cast nbuf1_3))
  simp only [before_0, before_1, before_2]
  unfold Φc
  rw [show (dat V c).after 0 t = bV0 V c t from rfl, show (dat V c).after 1 t = bV1 V c t from rfl, show (dat V c).after 2 t = bV2 V c t from rfl,
    show (dat V c).after 3 t = k1_pay3 (acc V c (t.val + 1)) from rfl]
  by_cases hl : t.val = 15
  · -- the last point
    have hc2 : k1_cond2 (grid1.coords t) = 1#1 := (cond2_iff t).mpr hl
    have hc1 := mt (cond1_iff t).mp (show ¬ t.val = 0 by omega)
    have hi : idle1 3 (grid1.coords t) = false := by show (!(k1_cond2 (grid1.coords t) == 1#1)) = false; rw [hc2]; rfl
    rw [hi]
    simp only [o0, o1, o2, o3]
    iintro ⟨⟨%f4, %h4, H4⟩, Howes, ⟨%d0, %f0, %h0, H0⟩, ⟨%d1, %f1, %h1, H1⟩, ⟨%d2, %f2, %h2, H2⟩, ⟨%d3, %f3, -, H3⟩⟩
    have h4' := h4 (by omega)
    iapply (body_last c (grid1.coords t)
      (stage1_0 (cfg1.slots t 0)) (hstage1_0 ((cfg1.slots t 0).cast nbuf1_0)) (stage1_1 (cfg1.slots t 1)) (hstage1_1 ((cfg1.slots t 1).cast nbuf1_1)) (stage1_2 (cfg1.slots t 2)) (hstage1_2 ((cfg1.slots t 2).cast nbuf1_2)) (stage1_3 (cfg1.slots t 3)) (hstage1_3 ((cfg1.slots t 3).cast nbuf1_3)) (Memref.whole cc1_scratch0) (Memref.isWhole_whole _)
      f0 f1 f2 f3 f4 hc1 hc2 Set.univ _)
    isplitl [H0]; · iexact H0
    isplitl [H1]; · iexact H1
    isplitl [H2]; · iexact H2
    isplitl [H3]; · iexact H3
    isplitl [H4]; · iexact H4
    iintro ⟨H0, H1, H2, ⟨%g3, %hg3, H3⟩, ⟨%g4, %hg4, H4⟩⟩
    rw [h0, h1, h2, h4', ← acc_succ] at hg3 hg4
    isplitl [H4]
    · iexists g4; isplitr; · ipureintro; exact fun _ => hg4
      iexact H4
    isplitl [Howes]; · iexact Howes
    isplitl [H0]; · iexists f0; isplitr; · ipureintro; exact h0
                    iexact H0
    isplitl [H1]; · iexists f1; isplitr; · ipureintro; exact h1
                    iexact H1
    isplitl [H2]; · iexists f2; isplitr; · ipureintro; exact h2
                    iexact H2
    iexists g3; isplitr; · ipureintro; exact hg3
    iexact H3
  · have hc2 : ¬ k1_cond2 (grid1.coords t) = 1#1 := mt (cond2_iff t).mp hl
    have hi : idle1 3 (grid1.coords t) = true := by
      show (!(k1_cond2 (grid1.coords t) == 1#1)) = true; rw [beq_eq_false_iff_ne.mpr hc2]; rfl
    have hfl : (win1 3).flush t = false := by
      rw [← Bool.not_eq_true]; exact mt (flush1_3 t).mp (by omega)
    rw [hi, hfl]
    simp only [o0, o1, o2, o3]
    by_cases hz : t.val = 0
    · -- the first point
      have hc1 := (cond1_iff t).mpr hz
      iintro ⟨⟨%f4, %h4, H4⟩, Howes, ⟨%d0, %f0, %h0, H0⟩, ⟨%d1, %f1, %h1, H1⟩, ⟨%d2, %f2, %h2, H2⟩, ⟨%d3, %f3, %h3, H3⟩⟩
      iapply (body_first c (grid1.coords t)
      (stage1_0 (cfg1.slots t 0)) (hstage1_0 ((cfg1.slots t 0).cast nbuf1_0)) (stage1_1 (cfg1.slots t 1)) (hstage1_1 ((cfg1.slots t 1).cast nbuf1_1)) (stage1_2 (cfg1.slots t 2)) (hstage1_2 ((cfg1.slots t 2).cast nbuf1_2)) (stage1_3 (cfg1.slots t 3)) (hstage1_3 ((cfg1.slots t 3).cast nbuf1_3)) (Memref.whole cc1_scratch0) (Memref.isWhole_whole _)
      f0 f1 f2 f3 f4 hc1 hc2 Set.univ _)
      isplitl [H0]; · iexact H0
      isplitl [H1]; · iexact H1
      isplitl [H2]; · iexact H2
      isplitl [H3]; · iexact H3
      isplitl [H4]; · iexact H4
      iintro ⟨H0, H1, H2, H3, ⟨%g4, %hg4, H4⟩⟩
      rw [h0, h1, h2, ← acc_zero V c, show (0 : ℕ) = t.val from hz.symm, ← acc_succ] at hg4
      isplitl [H4]
      · iexists g4; isplitr; · ipureintro; exact fun _ => hg4
        iexact H4
      isplitl [Howes]; · iexact Howes
      isplitl [H0]; · iexists f0; isplitr; · ipureintro; exact h0
                      iexact H0
      isplitl [H1]; · iexists f1; isplitr; · ipureintro; exact h1
                      iexact H1
      isplitl [H2]; · iexists f2; isplitr; · ipureintro; exact h2
                      iexact H2
      iexists d3, f3; isplitr; · ipureintro; exact h3
      iexact H3
    · have hc1 := mt (cond1_iff t).mp hz
      iintro ⟨⟨%f4, %h4, H4⟩, Howes, ⟨%d0, %f0, %h0, H0⟩, ⟨%d1, %f1, %h1, H1⟩, ⟨%d2, %f2, %h2, H2⟩, ⟨%d3, %f3, %h3, H3⟩⟩
      have h4' := h4 hz
      iapply (body_mid c (grid1.coords t)
      (stage1_0 (cfg1.slots t 0)) (hstage1_0 ((cfg1.slots t 0).cast nbuf1_0)) (stage1_1 (cfg1.slots t 1)) (hstage1_1 ((cfg1.slots t 1).cast nbuf1_1)) (stage1_2 (cfg1.slots t 2)) (hstage1_2 ((cfg1.slots t 2).cast nbuf1_2)) (stage1_3 (cfg1.slots t 3)) (hstage1_3 ((cfg1.slots t 3).cast nbuf1_3)) (Memref.whole cc1_scratch0) (Memref.isWhole_whole _)
      f0 f1 f2 f3 f4 hc1 hc2 Set.univ _)
      isplitl [H0]; · iexact H0
      isplitl [H1]; · iexact H1
      isplitl [H2]; · iexact H2
      isplitl [H3]; · iexact H3
      isplitl [H4]; · iexact H4
      iintro ⟨H0, H1, H2, H3, ⟨%g4, %hg4, H4⟩⟩
      rw [h0, h1, h2, h4', ← acc_succ] at hg4
      isplitl [H4]
      · iexists g4; isplitr; · ipureintro; exact fun _ => hg4
        iexact H4
      isplitl [Howes]; · iexact Howes
      isplitl [H0]; · iexists f0; isplitr; · ipureintro; exact h0
                      iexact H0
      isplitl [H1]; · iexists f1; isplitr; · ipureintro; exact h1
                      iexact H1
      isplitl [H2]; · iexists f2; isplitr; · ipureintro; exact h2
                      iexact H2
      iexists d3, f3; isplitr; · ipureintro; exact h3
      iexact H3

/-! ## The kernel as a segment of @main -/

variable (adm : (p : Fin 1) → (pcfgs (F := F) p).Adm)

/-- The pipelines' proof data: the one pipeline's. -/
def pdats : (p : Fin 1) → (c : Dev nD) → Dat τ (Elt F) (HIx 1) ℕ UU ℕ (Pipeline.pin (pcfgs (F := F)) adm p) c
  | ⟨0, _⟩ => fun c => dat V c

/-- The result's array after the kernel: what the last point writes, written back. -/
def outArr (c : Dev nD) : Buf (Elt F) ((c : Thread nD τ).loc main_v8) := (dat V c).arrAt 3 cfg1.N

variable (Vp : (c : Dev nD) → (b : Ref sig .tc) → Buf (Elt F) ((c : Thread nD τ).loc b))

set_option backward.isDefEq.respectTransparency.types false in
/-- The kernel from every unscoped buffer at `V c`, `R c` beside, nothing owed, to the same at `Vp c`: `V c` updated at
    the result's array. -/
def reg (R : Dev nD → sProp 𝕄) (hVp_out : ∀ c, Vp c main_v8 = outArr V c)
    (hVp_ne : ∀ c (b : Ref sig .tc), b ≠ main_v8 → Vp c b = V c b) :
    Pipeline.RegionSeg (pcfgs (F := F)) adm (pdats V adm) (none : HIx 1) defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ R c ∗ ∃ W, owes (c : Thread nD τ) (0 : CellTallies nD τ sig (HIx 1)) W)
  post c := iprop(unscopedBufs c (Vp c) ∗ R c ∗ ∃ W, owes (c : Thread nD τ) (0 : CellTallies nD τ sig (HIx 1)) W)
  X _ := BI.emp
  Y _ := BI.emp
  Z c := iprop(Pipeline.unscopedRest (Ix := HIx 1) (Name := ℕ) (U := UU) (Lvl := ℕ) spec1 c (V c) ∗ R c)
  hentry c := by
    rw [Pipeline.ownSems0_none]
    have hsplit := Pipeline.arrays_of_unscopedBufs (p := 0) (pcfgs (F := F)) adm (pdats V adm) launch1.win launch1.arr_whole c
      ((pdats V adm 0 c).share_full fun _ => rfl) (V c) fun _ => rfl
    iintro ⟨⟨Hub, HR, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    isplitl [Hrest] <;> iassumption
  hin c := by
    rw [show (pdats V adm 0 c).Φ 0 = Φc V c 0 from rfl, scopedRest1_eq]
    unfold Φc
    iintro ⟨-, -, %f, Hr⟩
    iexists f; isplitr; · ipureintro; exact fun h => absurd rfl h
    iexact Hr
  hout c := by
    rw [Pipeline.ownSems0_none, show (pdats V adm 0 c).Φ (Fin.last _) = Φc V c cfg1.N from rfl, scopedRest1_eq]
    unfold Φc
    iintro ⟨%f, -, Hr⟩
    isplitr; · iempintro
    isplitr; · iempintro
    iexists f; iexact Hr
  hexit c := by
    have hjoin := Pipeline.unscopedBufs_of_arrays (p := 0) (pcfgs (F := F)) adm (Ix := HIx 1) (Name := ℕ) (U := UU) (Lvl := ℕ) launch1.win launch1.arr_whole c
      (pdats V adm) ((pdats V adm 0 c).share_full fun _ => rfl) (V c) (Vp c) ((pdats V adm 0 c).arrAt · cfg1.N)
      (fun w => by
        fin_cases w
        · exact ((pdats V adm 0 c).arrAt_in 0 rfl _).trans (hVp_ne c main_v6 (by decide)).symm
        · exact ((pdats V adm 0 c).arrAt_in 1 rfl _).trans (hVp_ne c main_v7 (by decide)).symm
        · exact ((pdats V adm 0 c).arrAt_in 2 rfl _).trans (hVp_ne c main_arg0 (by decide)).symm
        · exact (hVp_out c).symm)
      (fun b hb => hVp_ne c b fun h => hb (h ▸ Finset.mem_image.mpr ⟨3, Finset.mem_univ _, rfl⟩))
    iintro ⟨Ha, HO, -, Hrest, HR⟩
    imodintro
    isplitl [Ha Hrest]
    · iapply hjoin; isplitl [Ha] <;> iassumption
    isplitl [HR]; · iexact HR
    unfold Pipeline.Dat.owesAt Pipeline.owesWithin
    icases HO with ⟨%W, -, HO⟩; iexists W; iexact HO

end Cert.Proof.KernelIdealRun

end
-- ==== Proof.KernelIdealRun.Launch.lean ====
/-
  The program's run: @main's arrays from the launch to the return, through the SparseCore call and the grid kernel, with
  the VALUES each step leaves; the ghost state the launch deals; and the run of all the threads.
-/
module

public import proofs.«01_k».proof.Proof.KernelIdealRun.Gather
public import proofs.«01_k».proof.Proof.KernelIdealRun.Count

@[expose] public section

noncomputable section

namespace Cert.Proof.KernelIdealRun

open Cert.KernelIdeal Cert.KernelIdeal.Gen

open Idealize.ShloMosaic Idealize.ShloMosaic.TcCoe
open Idealize.ShloMosaic.Tactic
open Idealize.ShloMosaic.SparseCore (S V T)
open Idealize.ShloMosaic.SparseCore.Cfg (HIx Pay)
open Idealize.ShloMosaic.StableHlo (held seq after launchContents)
open Idealize.ShloMosaic.Pipeline (ucRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

variable [FloatOps F] (m : (ℓ : Loc nD τ sig) → Buf (Elt F) ℓ) (ρ : Dev nD → PrngReg)

/-! ## @main's arrays -/

/-- The operations before the SparseCore call: the flat row-and-label numbers, the scores flattened. -/
def ops1 : List (HloOp τ sig (Elt F)) :=
  [StableHlo.nullary main_v0 (iotaInDim S128 32 0), StableHlo.nullary main_c (constantI S_ 32 32768#32),
   StableHlo.unary main_c main_v1 (broadcastInDim S128 ![] bcast_S_S128 : (⟨S_, .i32⟩ : BufTy).Contents (Elt F) → (⟨S128, .i32⟩ : BufTy).Contents (Elt F)),
   StableHlo.binary main_v0 main_v1 main_v2 (muli : (⟨S128, .i32⟩ : BufTy).Contents (Elt F) → (⟨S128, .i32⟩ : BufTy).Contents (Elt F) → (⟨S128, .i32⟩ : BufTy).Contents (Elt F)),
   StableHlo.binary main_v2 main_arg1 main_v3 (addi : (⟨S128, .i32⟩ : BufTy).Contents (Elt F) → (⟨S128, .i32⟩ : BufTy).Contents (Elt F) → (⟨S128, .i32⟩ : BufTy).Contents (Elt F)),
   StableHlo.reshape main_arg0 main_v4 (rfl : (.f32 : EltTy) = .f32) shapeCasts_S128x32768_S4194304]
/-- The operations between the two calls: the gathered scores and the labels as columns. -/
def ops2 : List (HloOp τ sig (Elt F)) :=
  [StableHlo.reshape main_v5 main_v6 (rfl : (.f32 : EltTy) = .f32) shapeCasts_S128_S128x1,
   StableHlo.reshape main_arg1 main_v7 (rfl : (.i32 : EltTy) = .i32) shapeCasts_S128_S128x1]
/-- The operation after the grid kernel: its one number as a scalar. -/
def ops3 : List (HloOp τ sig (Elt F)) :=
  [StableHlo.reshape main_v8 main_v9 (rfl : (.f32 : EltTy) = .f32) shapeCasts_S1x1_S_]

/-- The arrays at the SparseCore call. -/
def VA (d : Dev nD) : Valuation τ sig (Elt F) := after ops1 (launchContents m d)
/-- The flat scores, the flat numbers, and the array the gathered scores go to, at the SparseCore call. -/
def fx (d : Dev nD) : Buf (Elt F) (xLoc d) := VA m d main_v4
def fi (d : Dev nD) : Buf (Elt F) (iLoc d) := VA m d main_v3
def fo (d : Dev nD) : Buf (Elt F) (oLoc d) := VA m d main_v5
/-- The arrays after the SparseCore call: the gathered scores in their array. -/
def VB (d : Dev nD) : Valuation τ sig (Elt F) := Function.update (VA m d) (main_v5 : DevRef τ sig) (gOf (fx m) (fi m) d)
/-- The arrays at the grid kernel. -/
def VC (d : Dev nD) : Valuation τ sig (Elt F) := after ops2 (VB m d)
/-- The same, as the grid kernel's proof reads them. -/
abbrev VCr : (c : Dev nD) → (b : Ref sig .tc) → Buf (Elt F) ((c : Thread nD τ).loc b) := fun c b => VC m c b
/-- The arrays after the grid kernel: its result in its array. -/
def VD (d : Dev nD) : Valuation τ sig (Elt F) := Function.update (VC m d) (main_v8 : DevRef τ sig) (outArr (VCr m) d)
abbrev VDr : (c : Dev nD) → (b : Ref sig .tc) → Buf (Elt F) ((c : Thread nD τ).loc b) := fun c b => VD m c b
/-- The arrays at the return. -/
def VE (d : Dev nD) : Valuation τ sig (Elt F) := after ops3 (VD m d)

theorem VD_out (c : Dev nD) : VDr m c main_v8 = outArr (VCr m) c := by
  unfold VDr VD; exact Function.update_self ..
theorem VD_ne (c : Dev nD) (b : Ref sig .tc) (h : b ≠ main_v8) : VDr m c b = VCr m c b := by
  unfold VDr VD
  exact Function.update_of_ne (fun e => h (Proc.devRef_injective _ e)) ..

/-- @main, its operations gathered in lines. -/
theorem main_eq (d : Dev nD) : main (F := F) d
    = (seq ops1 >>= fun _ => (K (F := F)).run d 0 >>= fun _ => seq ops2 >>= fun _ =>
        Prog.lift (.customCall (SparseCore.inner (Pipeline.entry 0)) ()) >>= fun _ => seq ops3 >>= fun _ => pure ⟨⟩) := by
  simp only [main, ops1, ops2, ops3, StableHlo.seq, bind_assoc, pure_bind]

/-! ## The launch element of the ghost state -/

/-- The pipeline has no table. -/
abbrev adm : (p : Fin 1) → (pcfgs (F := F) p).Adm := fun p => (cfgs p).toPCfg_adm
abbrev pinned : Fin 1 → Pipeline.Cfg sig Λ₀ := Pipeline.pin (pcfgs (F := F)) adm
omit [FloatOps F] in
theorem pinned_inj : Function.Injective (Pipeline.cellOf (nD := nD) (τ := τ) (pinned (F := F))) := cellOf_inj

def u₀ : UU := (initOf (K (F := F)).hsCells (K (F := F)).hsToks,
  (initOf (Pipeline.cells (pinned (F := F)) pinned_inj) (Pipeline.launchToks (pinned (F := F)) pinned_inj), 1))

/-- What @main's proof is dealt of it beside the handshakes: the pipeline's cells. -/
abbrev G (d : Dev nD) : sProp 𝕄 :=
  iprop((bigSep Finset.univ fun p : Fin 1 => Pipeline.cellsGhost (pinned (F := F)) EP p d) ∗ bigSep Finset.univ fun p : Fin 1 => Pipeline.toksInit (pinned (F := F)) EP p d)

abbrev PP : (K (F := F)).Pay (nD := nD) (Val := Elt F) (Name := ℕ) (U := UU) := P (fx m) (fi m) (fo m)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (PP m).x q thr) := by
  unfold u₀
  iintro Hu
  ihave H := (ownU_pair (initOf (K (F := F)).hsCells (K (F := F)).hsToks)
    ((initOf (Pipeline.cells (pinned (F := F)) pinned_inj) (Pipeline.launchToks (pinned (F := F)) pinned_inj), 1) : UR sig nD τ × Counters)) $$ Hu
  icases H with ⟨HH, Hr⟩
  ihave H := (own_pair_emb (embR : Emb (UR sig nD τ × Counters) 𝕄)
    (initOf (Pipeline.cells (pinned (F := F)) pinned_inj) (Pipeline.launchToks (pinned (F := F)) pinned_inj)) (1 : Counters)) $$ Hr
  icases H with ⟨HP, -⟩
  ihave H := (Pipeline.fund_ghost (pinned (F := F)) (EP : Emb (UR sig nD τ) 𝕄) pinned_inj) $$ [HP]
  · unfold EP; iexact HP
  imod H with ⟨HG, HT⟩
  imodintro
  isplitl [HH]; · iexact HH
  isplitl [HG HT]
  · rw [bigSep_sep']
    isplitl [HG]; · iexact HG
    iexact HT
  rw [show (bigSep Finset.univ fun thr : Thread nD τ => bigSep Finset.univ fun q : Fin 1 => (PP (F := F) m).x q thr) = bigSep Finset.univ fun _ => iprop(emp) from
    bigSep_congr fun _ _ => bigSep_univ_of_subsingleton (0 : Fin 1), bigSep_emp']
  iempintro

/-! ## @main on the TensorCore -/

/-- The three arrays of the SparseCore call, out of all. -/
def callRefs : Finset (DevRef τ sig) := {(main_v4 : DevRef τ sig), (main_v3 : DevRef τ sig), (main_v5 : DevRef τ sig)}

omit [FloatOps F] in
theorem callRefs_sub : callRefs ⊆ ucRefs τ sig := by decide

omit [FloatOps F] in
theorem held_call (d : Dev nD) (W : Valuation τ sig (Elt F)) :
    (held (d.tc : Thread nD τ) callRefs W : sProp 𝕄)
      = iprop((xLoc d ↦{fullShare} (W main_v4 : Buf (Elt F) (xLoc d))) ∗ (iLoc d ↦{fullShare} (W main_v3 : Buf (Elt F) (iLoc d))) ∗ oLoc d ↦{fullShare} (W main_v5 : Buf (Elt F) (oLoc d))) := by
  unfold StableHlo.held callRefs
  rw [SparseCore.bigSep_insert' (by decide), SparseCore.bigSep_insert' (by decide), bigSep_singleton]

/-- All the arrays before the call, split. -/
theorem held_before (d : Dev nD) : (held (d.tc : Thread nD τ) (ucRefs τ sig) (VA m d) : sProp 𝕄)
    = iprop(((xLoc d ↦{fullShare} fx m d) ∗ (iLoc d ↦{fullShare} fi m d) ∗ oLoc d ↦{fullShare} fo m d)
        ∗ held (d.tc : Thread nD τ) (ucRefs τ sig \ callRefs) (VA m d)) := by
  rw [StableHlo.held_sub_split _ callRefs_sub, held_call]; rfl

/-- All the arrays after the call, split: only the result's array has changed. -/
theorem held_after (d : Dev nD) : (held (d.tc : Thread nD τ) (ucRefs τ sig) (VB m d) : sProp 𝕄)
    = iprop(((xLoc d ↦{fullShare} fx m d) ∗ (iLoc d ↦{fullShare} fi m d) ∗ oLoc d ↦{fullShare} gOf (fx m) (fi m) d)
        ∗ held (d.tc : Thread nD τ) (ucRefs τ sig \ callRefs) (VA m d)) := by
  rw [StableHlo.held_sub_split _ callRefs_sub, held_call,
    StableHlo.held_congr (V := VB m d) (V' := VA m d) (S := ucRefs τ sig \ callRefs) _ fun b hb => by
      unfold VB
      refine Function.update_of_ne ?_ ..
      rintro rfl
      exact (Finset.mem_sdiff.mp hb).2 (by decide)]
  have h4 : VB m d main_v4 = fx m d := by unfold VB fx; exact Function.update_of_ne (by decide) ..
  have h3 : VB m d main_v3 = fi m d := by unfold VB fi; exact Function.update_of_ne (by decide) ..
  have h5 : VB m d main_v5 = gOf (fx m) (fi m) d := by unfold VB; exact Function.update_self ..
  rw [h4, h3, h5]

theorem sub1 : ∀ op ∈ ops1 (F := F), op.bufs ⊆ ucRefs τ sig := by
  intro op ho; apply Pipeline.sub_ucRefs
  simp only [ops1, List.mem_cons, List.not_mem_nil, or_false] at ho
  rcases ho with rfl | rfl | rfl | rfl | rfl | rfl <;> simp
theorem sub2 : ∀ op ∈ ops2 (F := F), op.bufs ⊆ ucRefs τ sig := by
  intro op ho; apply Pipeline.sub_ucRefs
  simp only [ops2, List.mem_cons, List.not_mem_nil, or_false] at ho
  rcases ho with rfl | rfl <;> simp
theorem sub3 : ∀ op ∈ ops3 (F := F), op.bufs ⊆ ucRefs τ sig := by
  intro op ho; apply Pipeline.sub_ucRefs
  simp only [ops3, List.mem_cons, List.not_mem_nil, or_false] at ho
  rcases ho with rfl; simp
theorem fresh1 : ∀ op ∈ ops1 (F := F), op.fresh = ∅ := by
  intro op ho
  simp only [ops1, List.mem_cons, List.not_mem_nil, or_false] at ho
  rcases ho with rfl | rfl | rfl | rfl | rfl | rfl <;> rfl
theorem fresh2 : ∀ op ∈ ops2 (F := F), op.fresh = ∅ := by
  intro op ho
  simp only [ops2, List.mem_cons, List.not_mem_nil, or_false] at ho
  rcases ho with rfl | rfl <;> rfl
theorem fresh3 : ∀ op ∈ ops3 (F := F), op.fresh = ∅ := by
  intro op ho
  simp only [ops3, List.mem_cons, List.not_mem_nil, or_false] at ho
  rcases ho with rfl; rfl

/-- The grid kernel's entry, as the pipeline's labels name it. -/
def entryProg : Prog (TpuEff nD τ sig (Elt F) (ΛP (F := F)) .tc) PUnit := .op (.customCall (Pipeline.entry 0) ()) .ret

theorem lift_entry : (Prog.lift (.customCall (SparseCore.inner (Pipeline.entry 0)) ()) : Prog (TpuEff nD τ sig (Elt F) (SparseCore.Sig (ΛP (F := F)) 1) .tc) PUnit)
    = SparseCore.liftProg entryProg := rfl

set_option backward.isDefEq.respectTransparency.types false in
/-- The grid kernel inside @main: from every array at `VC`, nothing owed, to every array at `VD`. -/
theorem wp_region [∀ e, Nonempty (Elt F e)] (d : Dev nD) (Q : PUnit → sProp 𝕄) :
    iprop((iprop(boundary (d.tc : Thread nD τ) ∗ unscopedBufs d (VDr m d) ∗ emp ∗ ∃ W, owes (d.tc : Thread nD τ) (0 : CellTallies nD τ sig (HIx 1)) W) -∗ Q ⟨⟩)
        ∗ boundary (d.tc : Thread nD τ) ∗ (unscopedBufs d (VCr m d) ∗ emp ∗ ∃ W, owes (d.tc : Thread nD τ) (0 : CellTallies nD τ sig (HIx 1)) W)
        ∗ levAts (K (F := F)).L (K (F := F)).lev ∗ Pipeline.cellsGhost (pinned (F := F)) EP 0 d ∗ Pipeline.toksInit (pinned (F := F)) EP 0 d)
      ⊢ wp frame (wpE ((K (F := F)).defs (D (F := F))) 𝒱 (d.tc : Thread nD τ) none) Set.univ
          (Prog.lift (.customCall (SparseCore.inner (Pipeline.entry 0)) ())) Q := by
  rw [lift_entry]
  refine BI.Entails.trans ?_ ((K (F := F)).wp_liftProg (D (F := F)) 𝒱 (d.tc : Thread nD τ) Set.univ none entryProg Q)
  have h := (Pipeline.RegionSeg.wp (pcfgs (F := F)) adm (pdats (VCr m) adm) none pinned_inj EP defs₀ 𝒱₀ (K (F := F)).L (K (F := F)).lev
    (reg (VCr m) adm (VDr m) (fun _ => iprop(emp)) (VD_out m) (VD_ne m)) d none (fun _ h => nomatch h) .ret Q)
  refine BI.Entails.trans (?_ : _ ⊢ iprop((iprop(boundary (d.tc : Thread nD τ) ∗ unscopedBufs d (VDr m d) ∗ emp ∗ ∃ W, owes (d.tc : Thread nD τ) (0 : CellTallies nD τ sig (HIx 1)) W)
          -∗ wp frame (wpE (D (F := F)) 𝒱₀.lift (d.tc : Thread nD τ) none) Set.univ (.ret ⟨⟩) Q)
        ∗ boundary (d.tc : Thread nD τ) ∗ (unscopedBufs d (VCr m d) ∗ emp ∗ ∃ W, owes (d.tc : Thread nD τ) (0 : CellTallies nD τ sig (HIx 1)) W)
        ∗ levAts (K (F := F)).L (K (F := F)).lev ∗ Pipeline.cellsGhost (pinned (F := F)) EP 0 d ∗ Pipeline.toksInit (pinned (F := F)) EP 0 d)) h
  iintro ⟨Hk, Hb, Hpre, Hl, Hg, Ht⟩
  isplitl [Hk]
  · iintro H
    rw [wp_ret]
    imodintro
    iapply Hk
    iexact H
  isplitl [Hb]; · iexact Hb
  isplitl [Hpre]; · iexact Hpre
  isplitl [Hl]; · iexact Hl
  isplitl [Hg]; · iexact Hg
  iexact Ht

/-- What the TensorCore's handshake state owes after the one call, and the rest of it. -/
theorem tcSt_one (d : Dev nD) : ∃ X : sProp 𝕄, (K (F := F)).tcSt EH d 1
    = iprop((∃ W, ⌜(K (F := F)).WBelow (SparseCore.T d) W (8 * 1)⌝ ∗ owes (SparseCore.T d) (0 : CellTallies nD τ sig (HIx 1)) W) ∗ X) := by
  unfold SparseCore.Cfg.tcSt
  rw [SparseCore.Cfg.Otc_end _ d (Nat.le_refl 1)]
  exact ⟨_, rfl⟩

/-- No wait's level is past the one call's. -/
theorem wbelow (thr : Thread nD τ) (W : Waits sig (HIx 1)) : (K (F := F)).WBelow thr W (8 * 1) := by
  rintro ⟨s, i⟩ -
  cases i with
  | none => exact Nat.zero_le _
  | some q =>
    refine ((K (F := F)).lev_some_le _ q).trans ?_
    have : q.val = 0 := by omega
    omega

abbrev FIN (d : Dev nD) : sProp 𝕄 := held (d.tc : Thread nD τ) (ucRefs τ sig) (VE m d)

/-- @main on device `d`'s TensorCore: the arrays from the launch's contents to `VE`. -/
theorem hmain [∀ e, Nonempty (Elt F e)] (κ : GSem nD τ sig → ℕ) (d : Dev nD) :
    iprop((K (F := F)).ctx EH (PP m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (d.tc : Thread nD τ) (ucRefs τ sig) (launchContents m d) from
    Pipeline.unscopedBufs_held d (launchContents m d), main_eq]
  obtain ⟨X, hX⟩ := tcSt_one (F := F) d
  have hG : (G d : sProp 𝕄) = iprop(Pipeline.cellsGhost (pinned (F := F)) EP 0 d ∗ Pipeline.toksInit (pinned (F := F)) EP 0 d) := by
    unfold G; rw [bigSep_univ_of_subsingleton (0 : Fin 1), bigSep_univ_of_subsingleton (0 : Fin 1)]
  rw [hG]
  iintro ⟨#Hctx, Hst, ⟨Hb, Hh, Hts, -⟩, Hg, Ht⟩
  iapply (StableHlo.wp_seq 𝒱 none Set.univ d (ucRefs τ sig) _ ops1 sub1 fresh1 (launchContents m d)) $$ [Hb Hh]
  · isplitl [Hb]; · iexact Hb
    iexact Hh
  iintro ⟨Hb, Hh⟩
  ihave Hh' := (Entails.of_eq (show (held (d.tc : Thread nD τ) (ucRefs τ sig) (after ops1 (launchContents m d)) : sProp 𝕄) = _ from held_before m d)) $$ Hh
  icases Hh' with ⟨Hcall, Hrest⟩
  rw [wp_bind]
  iapply ((K (F := F)).wp_run (D (F := F)) 𝒱 (EH := EH) (P := PP m) κ d 0)
  isplitr; · iexact Hctx
  isplitl [Hst]; · iexact Hst
  isplitl [Hcall]; · rw [st0_eq]; iexact Hcall
  iintro ⟨Hst, Hdn⟩
  ihave Hdn' := (Entails.of_eq (dn0_eq (fx m) (fi m) (fo m) d)) $$ Hdn
  ihave Hh := (Entails.of_eq (held_after m d).symm) $$ [Hdn' Hrest]
  · isplitl [Hdn']; · iexact Hdn'
    iexact Hrest
  iapply (StableHlo.wp_seq 𝒱 none Set.univ d (ucRefs τ sig) _ ops2 sub2 fresh2 (VB m d)) $$ [Hb Hh]
  · isplitl [Hb]; · iexact Hb
    iexact Hh
  iintro ⟨Hb, Hh⟩
  ihave Hu := (Entails.of_eq (Pipeline.unscopedBufs_held (Ix := HIx 1) (Name := ℕ) (U := UU) (Lvl := ℕ) d (after ops2 (VB m d))).symm) $$ Hh
  ihave Hst' := (Entails.of_eq (show ((K (F := F)).tcSt EH d ((0 : Fin 1).val + 1) : sProp 𝕄) = _ from hX)) $$ Hst
  icases Hst' with ⟨⟨%W, -, HO⟩, HX⟩
  ihave Hl := (SparseCore.Cfg.ctx_levAts κ) $$ Hctx
  rw [wp_bind]
  iapply (wp_region m d _)
  isplitr [Hb Hu HO Hl Hg Ht]
  · iintro ⟨Hb, Hu, -, %W', HO⟩
    ihave Hh := (Entails.of_eq (Pipeline.unscopedBufs_held (Ix := HIx 1) (Name := ℕ) (U := UU) (Lvl := ℕ) d (VD m d))) $$ Hu
    iapply (StableHlo.wp_seq 𝒱 none Set.univ d (ucRefs τ sig) _ ops3 sub3 fresh3 (VD m d)) $$ [Hb Hh]
    · isplitl [Hb]; · iexact Hb
      iexact Hh
    iintro ⟨Hb, Hh⟩
    rw [wp_pure]
    imodintro
    isplitl [HO HX]
    · iapply (Entails.of_eq hX.symm)
      isplitl [HO]
      · iexists W'
        isplitr; · ipureintro; exact wbelow _ W'
        iexact HO
      iexact HX
    isplitl [Hh]; · iexact Hh
    isplitl [Hb]; · iexact Hb
    iexact Hts
  isplitl [Hb]; · iexact Hb
  isplitl [Hu HO]
  · isplitl [Hu]; · iexact Hu
    isplitr; · iempintro
    iexists W; iexact HO
  isplitl [Hl]; · iexact Hl
  isplitl [Hg]; · iexact Hg
  iexact Ht

/-! ## The run -/

/-- One array out of all, as the final memory has it. -/
theorem held_mem (d : Dev nD) (s' : Phys nD τ sig (Elt F)) (b : Ref sig .tc) (hb : (b : DevRef τ sig) ∈ ucRefs τ sig) :
    iprop(FIN m d ∗ SI s') ⊢ (⌜s'.mem.mem ((d : Thread nD τ).loc b) = VE m d b⌝ : sProp 𝕄) := by
  unfold FIN
  rw [StableHlo.held_sub_split _ (Finset.singleton_subset_iff.mpr hb)]
  unfold StableHlo.held
  rw [bigSep_singleton]
  iintro ⟨⟨Hb, -⟩, HSI⟩
  ihave H := (SI_pointsTo_agree (st := s') (ℓ := (d : Thread nD τ).loc b) (I := Finset.univ) (q := fullShare) (f := VE m d b)) $$ [HSI Hb]
  · isplitl [HSI] <;> iassumption
  icases H with %h
  ipureintro; exact funext fun i => h i (Finset.mem_univ i)

/-- What the final memory holds on device `d`: the result as computed, the arguments as they were. -/
def fq (d : Dev nD) (s' : Phys nD τ sig (Elt F)) : Prop :=
  s'.mem.mem ((d : Thread nD τ).loc main_v9) = VE m d main_v9 ∧ s'.mem.mem ((d : Thread nD τ).loc main_arg0) = VE m d main_arg0
    ∧ s'.mem.mem ((d : Thread nD τ).loc main_arg1) = VE m d main_arg1

theorem hfin (d : Dev nD) (s' : Phys nD τ sig (Elt F)) : iprop(FIN m d ∗ SI s') ⊢ (⌜fq m d s'⌝ : sProp 𝕄) := by
  iintro H
  ihave H := (persistent_entails_right (held_mem m d s' main_v9 (by decide))) $$ H
  icases H with ⟨%h1, H⟩
  ihave H := (persistent_entails_right (held_mem m d s' main_arg0 (by decide))) $$ H
  icases H with ⟨%h2, H⟩
  ihave H := (held_mem m d s' main_arg1 (by decide)) $$ H
  icases H with %h3
  ipureintro; exact ⟨h1, h2, h3⟩

/-- The result of the run on device `c`. -/
def result (c : Dev nD) : Buf (Elt F) ((c : Thread nD τ).loc main_v9) := VE m c main_v9

/-- The flat scores are the scores. -/
theorem fx_eq (d : Dev nD) : fx m d = shapeCast S4194304 (m ((d : Thread nD τ).loc main_arg0) : S128x32768.Idx → F .f32) shapeCasts_S128x32768_S4194304 := by
  unfold fx VA ops1
  after_results_simp
  rfl

/-- The flat numbers: row times the row's length, plus the row's label. -/
theorem fi_eq (d : Dev nD) : fi m d = addi (muli (iotaInDim S128 32 0) (broadcastInDim S128 ![] bcast_S_S128 (constantI S_ 32 32768#32)))
    (m ((d : Thread nD τ).loc main_arg1) : S128.Idx → BitVec 32) := by
  unfold fi VA ops1
  after_results_simp
  try rfl

theorem VA_arg0 (d : Dev nD) : VA m d main_arg0 = m ((d : Thread nD τ).loc main_arg0) := by
  unfold VA ops1; after_results_simp; try rfl
theorem VA_arg1 (d : Dev nD) : VA m d main_arg1 = m ((d : Thread nD τ).loc main_arg1) := by
  unfold VA ops1; after_results_simp; try rfl
theorem VB_arg0 (d : Dev nD) : VB m d main_arg0 = m ((d : Thread nD τ).loc main_arg0) := by
  unfold VB; exact (Function.update_of_ne (by decide) ..).trans (VA_arg0 m d)
theorem VB_arg1 (d : Dev nD) : VB m d main_arg1 = m ((d : Thread nD τ).loc main_arg1) := by
  unfold VB; exact (Function.update_of_ne (by decide) ..).trans (VA_arg1 m d)
theorem VB_v5 (d : Dev nD) : VB m d main_v5 = gOf (fx m) (fi m) d := by unfold VB; exact Function.update_self ..
theorem VC_arg0 (d : Dev nD) : VC m d main_arg0 = m ((d : Thread nD τ).loc main_arg0) := by
  refine Eq.trans ?_ (VB_arg0 m d)
  unfold VC ops2; after_results_simp
theorem VC_arg1 (d : Dev nD) : VC m d main_arg1 = m ((d : Thread nD τ).loc main_arg1) := by
  refine Eq.trans ?_ (VB_arg1 m d)
  unfold VC ops2; after_results_simp
/-- The gathered scores as a column. -/
theorem VC_v6 (d : Dev nD) : VC m d main_v6 = shapeCast S128x1 (gOf (fx m) (fi m) d : S128.Idx → F .f32) shapeCasts_S128_S128x1 := by
  rw [← VB_v5 m d]
  unfold VC ops2; after_results_simp
  try rfl
/-- The labels as a column. -/
theorem VC_v7 (d : Dev nD) : VC m d main_v7 = shapeCast S128x1 (m ((d : Thread nD τ).loc main_arg1) : S128.Idx → BitVec 32) shapeCasts_S128_S128x1 := by
  rw [← VB_arg1 m d]
  unfold VC ops2; after_results_simp
  try rfl
theorem VD_arg0 (d : Dev nD) : VD m d main_arg0 = m ((d : Thread nD τ).loc main_arg0) := by
  unfold VD; exact (Function.update_of_ne (by decide) ..).trans (VC_arg0 m d)
theorem VD_arg1 (d : Dev nD) : VD m d main_arg1 = m ((d : Thread nD τ).loc main_arg1) := by
  unfold VD; exact (Function.update_of_ne (by decide) ..).trans (VC_arg1 m d)
/-- The arguments are as they were. -/
theorem VE_arg0 (d : Dev nD) : VE m d main_arg0 = m ((d : Thread nD τ).loc main_arg0) := by
  refine Eq.trans ?_ (VD_arg0 m d)
  unfold VE ops3; after_results_simp
theorem VE_arg1 (d : Dev nD) : VE m d main_arg1 = m ((d : Thread nD τ).loc main_arg1) := by
  refine Eq.trans ?_ (VD_arg1 m d)
  unfold VE ops3; after_results_simp
/-- The result is the grid kernel's one number. -/
theorem result_eq (d : Dev nD) : result m d = shapeCast S_ (outArr (VCr m) d : S1x1.Idx → F .f32) shapeCasts_S1x1_S_ := by
  rw [← VD_out]
  unfold result VE ops3; after_results_simp
  try rfl

/-- The labels name columns, on every device. -/
def PreOK : Prop := ∀ (d : Dev nD) (j : S128.Idx), ((m ((d : Thread nD τ).loc main_arg1) : S128.Idx → BitVec 32) j).toNat < 32768

/-- So the flat numbers name flat scores. -/
theorem fi_toNat (h : PreOK m) (d : Dev nD) (j : S128.Idx) :
    (fi m d j).toNat = (j 0).val * 32768 + ((m ((d : Thread nD τ).loc main_arg1) : S128.Idx → BitVec 32) j).toNat := by
  rw [fi_eq]
  have hj : (j 0).val < 128 := (j 0).isLt
  have hl := h d j
  show (IntOp.addi (IntOp.muli (BitVec.ofNat 32 (j 0).val) 32768#32) ((m ((d : Thread nD τ).loc main_arg1) : S128.Idx → BitVec 32) j)).toNat = _
  simp only [IntOp.addi, IntOp.muli, BitVec.toNat_add, BitVec.toNat_mul, BitVec.toNat_ofNat]
  omega

theorem inRange (h : PreOK m) : InRange (F := F) (fi m) := by
  intro d j
  rw [fi_toNat m h]
  have hj : (j 0).val < 128 := (j 0).isLt
  have hl := h d j
  omega

def QC : PUnit × MemSt nD τ sig (Elt F) → Prop := fun r =>
  (∀ c : Dev nD, r.2.mem ((c : Thread nD τ).loc main_v9) = result m c ∧ r.2.mem ((c : Thread nD τ).loc main_arg0) = m ((c : Thread nD τ).loc main_arg0)
    ∧ r.2.mem ((c : Thread nD τ).loc main_arg1) = m ((c : Thread nD τ).loc main_arg1)) ∧ r.2.sem = fun _ => 0

/-- Every run of the program ends, with the result at `result`, the arguments as they were, and no semaphore's count left. -/
theorem run_main [∀ e, Nonempty (Elt F e)] (h : PreOK m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := PP m) (A := ∅) facts v₀
    (fun q hq => match q with | 0 => nomatch hq)
    (fun q _ => match q with | 0 => tileObl (fx m) (fi m) (fo m) facts (inRange m h))
    (fun q _ => match q with | 0 => SparseCore.Cfg.VecSplit.of_plain (vecSplit (fx m) (fi m) (fo m)))
    m ρ main (fun d => G d) (FIN m) (u₀ (F := F)) (sep_elim_left.trans (hu₀ m)) (hmain m ρ) (fq m) (hfin m) (QC m)
    (fun _ h hz => ⟨fun c => ⟨(h c).1, (h c).2.1.trans (VE_arg0 m c), (h c).2.2.trans (VE_arg1 m c)⟩, hz⟩)

end Cert.Proof.KernelIdealRun

end
-- ==== Proof.Value.Rank.lean ====
/-
  WHERE A STABLE DESCENDING SORT PUTS A POSITION. The sort orders the positions of a row by its key, the greatest first, and
  leaves equal keys in the order of their positions. So position `p` lands after exactly the positions whose key is greater,
  and those whose key is equal and which come earlier: its place is the number of them.
-/
module

public import Idealize.ShloMosaic.Lib.SortPrefix
public import Idealize.ShloMosaic.Lib.SortFacts

@[expose] public section

noncomputable section

namespace Cert.Proof.Value

open Idealize.ShloMosaic

/-- Sorting an increasing list by a comparison alone is sorting it by any comparison that agrees with it wherever the first
    argument is the later position. -/
theorem stableSort_increasing {n : Nat} (R R' : Fin n → Fin n → Bool) (h : ∀ a b, a < b → R b a = R' b a) :
    ∀ l : List (Fin n), l.Pairwise (· < ·) → stableSort R l = stableSort R' l := by
  intro l
  induction l with
  | nil => intro _; rfl
  | cons a l ih =>
    intro hl
    rw [List.pairwise_cons] at hl
    unfold stableSort
    rw [ih hl.2]
    exact insertBefore_congr R R' a _ fun b hb => h a b (hl.1 b ((perm_stableSort R' l).mem_iff.1 hb))

variable {n : Nat} {κ : Type} [LinearOrder κ]

/-- Position `k` comes before position `p`: a greater key, or an equal key and an earlier position. -/
def Ahead (key : Fin n → κ) (k p : Fin n) : Prop := key p < key k ∨ (key k = key p ∧ k < p)

instance (key : Fin n → κ) (k p : Fin n) : Decidable (Ahead key k p) := by unfold Ahead; infer_instance

/-- The sort by the key alone is the sort by the key and then the position. -/
theorem sortedFrom_key (key : Fin n → κ) (R : Fin n → Fin n → Bool) (hR : ∀ a b, R a b = decide (key b < key a)) :
    sortedFrom R = sortedFrom fun a b => decide (Ahead key a b) := by
  have e : sortPositions n R = sortPositions n fun a b => decide (Ahead key a b) := by
    unfold sortPositions
    refine stableSort_increasing _ _ (fun a b hab => ?_) _ (List.pairwise_lt_finRange n)
    rw [hR]
    have : ¬ b < a := by omega
    simp [Ahead, this]
  have get {l l' : List (Fin n)} (h : l = l') (k : Nat) (hk : k < l.length) (hk' : k < l'.length) : l[k] = l'[k] := by subst h; rfl
  funext k
  exact get e _ _ _

/-- `Ahead` is a strict total order. -/
theorem ahead_order (key : Fin n → κ) : StrictTotalBefore fun a b => decide (Ahead key a b) := by
  refine ⟨fun a => ?_, fun a b c hab hbc => ?_, fun a b hab => ?_⟩
  · exact decide_eq_false (fun h => h.elim (lt_irrefl _) fun h => lt_irrefl _ h.2)
  · rw [decide_eq_true_eq] at *
    rcases hab with h | ⟨h, h'⟩ <;> rcases hbc with g | ⟨g, g'⟩
    · exact .inl (g.trans h)
    · exact .inl (g ▸ h)
    · exact .inl (h ▸ g)
    · exact .inr ⟨h.trans g, h'.trans g'⟩
  · rw [decide_eq_true_eq, decide_eq_true_eq]
    rcases lt_trichotomy (key a) (key b) with h | h | h
    · exact .inr (.inl h)
    · rcases lt_or_gt_of_ne hab with g | g
      · exact .inl (.inr ⟨h, g⟩)
      · exact .inr (.inr ⟨h.symm, g⟩)
    · exact .inl (.inl h)

/-- Of two places of the sort the earlier holds the position that comes before the other. -/
theorem ahead_sortedFrom (key : Fin n → κ) (i j : Fin n) :
    Ahead key (sortedFrom (fun a b => decide (Ahead key a b)) i) (sortedFrom (fun a b => decide (Ahead key a b)) j) ↔ i < j := by
  set B : Fin n → Fin n → Bool := fun a b => decide (Ahead key a b) with hB
  have ho : StrictTotalBefore B := ahead_order key
  have step : ∀ i j : Fin n, i < j → B (sortedFrom B j) (sortedFrom B i) = false := fun i j hij =>
    sortedFrom_noInversion B B ho.asymm (fun _ _ h => h) ho.negTrans i j hij
  have hiff : ∀ a b, Ahead key a b ↔ B a b = true := fun a b => by simp [hB]
  rw [hiff]
  constructor
  · intro h
    by_contra hn
    rcases lt_or_eq_of_le (not_lt.1 hn) with g | g
    · rw [step j i g] at h; exact Bool.noConfusion h
    · subst g; rw [ho.irrefl] at h; exact Bool.noConfusion h
  · intro h
    by_contra hn
    rcases ho.total (sortedFrom B i) (sortedFrom B j) fun e => absurd (sortedFrom_injective B e) h.ne with g | g
    · exact hn g
    · rw [step i j h] at g; exact Bool.noConfusion g

/-- The position at place `i` of the sort has exactly `i` positions before it. -/
theorem card_ahead_sortedFrom (key : Fin n → κ) (R : Fin n → Fin n → Bool) (hR : ∀ a b, R a b = decide (key b < key a))
    (i : Fin n) : (Finset.univ.filter fun k => Ahead key k (sortedFrom R i)).card = i.val := by
  rw [sortedFrom_key key R hR]
  set B : Fin n → Fin n → Bool := fun a b => decide (Ahead key a b) with hB
  have e : (Finset.univ.filter fun k => Ahead key k (sortedFrom B i))
      = (Finset.univ.filter fun j : Fin n => j < i).image (sortedFrom B) := by
    ext k
    simp only [Finset.mem_filter, Finset.mem_univ, true_and, Finset.mem_image]
    constructor
    · intro h
      obtain ⟨j, rfl⟩ := sortedFrom_surjective B k
      exact ⟨j, (ahead_sortedFrom key j i).1 h, rfl⟩
    · rintro ⟨j, hj, rfl⟩
      exact (ahead_sortedFrom key j i).2 hj
  rw [e, Finset.card_image_of_injective _ (sortedFrom_injective B)]
  have : (Finset.univ.filter fun j : Fin n => j < i) = Finset.Iio i := by ext j; simp
  rw [this, Fin.card_Iio]

/-- Position `p` is among the first `c` of the sort exactly where fewer than `c` positions come before it. -/
theorem mem_prefix_iff (key : Fin n → κ) (R : Fin n → Fin n → Bool) (hR : ∀ a b, R a b = decide (key b < key a)) (p : Fin n) (c : Nat) :
    (∃ i : Fin n, i.val < c ∧ sortedFrom R i = p) ↔ (Finset.univ.filter fun k => Ahead key k p).card < c := by
  constructor
  · rintro ⟨i, hi, rfl⟩
    rw [card_ahead_sortedFrom key R hR]; exact hi
  · intro h
    obtain ⟨i, rfl⟩ := sortedFrom_surjective R p
    exact ⟨i, by rwa [card_ahead_sortedFrom key R hR] at h, rfl⟩

end Cert.Proof.Value

end
-- ==== Proof.Value.Share.lean ====
/-
  THE VALUE BOTH PROGRAMS COMPUTE, over the extended reals: the share of the 128 rows whose label has fewer than five columns
  before it in the row's descending order. And what the two programs' words say of one column or one row.
-/
module

public import proofs.«01_k».proof.Proof.Value.Rank
public import Idealize.ShloMosaic.Lib.Pointwise
public import Idealize.ShloMosaic.Lib.IndicatorCount
public import Idealize.ShloMosaic.Lib.Routing.Count
public import Idealize.ShloMosaic.Lib.Routing.OpsOrder

@[expose] public section

noncomputable section

namespace Cert.Proof.Value

open Idealize.ShloMosaic

/-- The scores, 128 rows of 32768 columns, and the labels, one per row. -/
abbrev Scores : Type := (⟨2, ![128, 32768]⟩ : Shape).Idx → EReal
abbrev Labels : Type := (⟨1, ![128]⟩ : Shape).Idx → BitVec 32

/-- The scores of row `r`. -/
abbrev row (x : Scores) (r : Fin 128) (k : Fin 32768) : EReal := x (ix2 r k)

/-- The column that row `r`'s label names (a label in range names itself). -/
def col (l : Labels) (r : Fin 128) : Fin 32768 := ⟨(l (ix1 r)).toNat % 32768, Nat.mod_lt _ (by decide)⟩

theorem col_val {l : Labels} (h : ∀ j, (l j).toNat < 32768) (r : Fin 128) : (col l r).val = (l (ix1 r)).toNat :=
  Nat.mod_eq_of_lt (h _)

/-- The columns of row `r` that come before its label. -/
def ahead (x : Scores) (l : Labels) (r : Fin 128) : Finset (Fin 32768) :=
  Finset.univ.filter fun k => Ahead (row x r) k (col l r)

/-- One where the label of row `r` is among the five best, zero elsewhere. -/
def hit (x : Scores) (l : Labels) (r : Fin 128) : EReal := if (ahead x l r).card < 5 then 1 else 0

/-- The share of the rows whose label is among the five best. -/
def share (x : Scores) (l : Labels) : EReal := Ideal.div (∑ r, hit x l r) (Ideal.ofBits .f32 0x43000000#32)

/-! ## Words -/

theorem ofBool_one (p : Prop) [Decidable p] : BitVec.ofBool (decide p) = 1#1 ↔ p := by
  by_cases h : p <;> simp [h]

theorem ori_one (a b : BitVec 1) : IntOp.ori a b = 1#1 ↔ a = 1#1 ∨ b = 1#1 := by
  revert a b; decide

theorem andi_one (a b : BitVec 1) : IntOp.andi a b = 1#1 ↔ a = 1#1 ∧ b = 1#1 := by
  revert a b; decide

/-- Column `t * 2048 + k`, compared signed with a label in range. -/
theorem column_slt (t k : Nat) (ht : t < 16) (hk : k < 2048) (v : BitVec 32) (hv : v.toNat < 32768) :
    IntOp.cmpi .slt (IntOp.addi (BitVec.ofNat 32 k) (Scalar.muli (BitVec.ofNat 32 t) 2048#32)) v = 1#1 ↔ t * 2048 + k < v.toNat := by
  have e : (IntOp.addi (BitVec.ofNat 32 k) (Scalar.muli (BitVec.ofNat 32 t) 2048#32)).toNat = t * 2048 + k := by
    show (BitVec.ofNat 32 k + BitVec.ofNat 32 t * 2048#32).toNat = _
    simp only [BitVec.toNat_add, BitVec.toNat_mul, BitVec.toNat_ofNat, Nat.reducePow, Nat.reduceMod]
    omega
  generalize IntOp.addi (BitVec.ofNat 32 k) (Scalar.muli (BitVec.ofNat 32 t) 2048#32) = w at e
  have : IntOp.cmpi .slt w v = 1#1 ↔ w.toNat < v.toNat := by
    show BitVec.ofBool (w.slt v) = 1#1 ↔ _
    rw [BitVec.slt_eq_decide, ofBool_one, BitVec.toInt_eq_toNat_cond, BitVec.toInt_eq_toNat_cond]
    simp only [Nat.reducePow]
    omega
  rw [this, e]

/-- A count of at most 32768, compared signed with five. -/
theorem count_slt (n : Nat) (hn : n ≤ 32768) : IntOp.cmpi .slt (BitVec.ofNat 32 n) 5#32 = 1#1 ↔ n < 5 := by
  show BitVec.ofBool ((BitVec.ofNat 32 n).slt 5#32) = 1#1 ↔ _
  rw [BitVec.slt_eq_decide, ofBool_one, BitVec.toInt_eq_toNat_cond, BitVec.toInt_eq_toNat_cond]
  simp only [BitVec.toNat_ofNat, Nat.reducePow, Nat.reduceMod]
  omega

/-- A bit widened and read signed, and a bit read unsigned, as extended reals. -/
theorem sitofp_bit (b : BitVec 1) : (FloatOps.sitofp (F := Ideal) .f32 (BitVec.setWidth 32 b) : EReal) = if b = 1#1 then 1 else 0 := by
  rcases BitVec.eq_zero_or_eq_one b with rfl | rfl
  · show (((BitVec.setWidth 32 0#1).toInt : ℝ) : EReal) = _
    norm_num
  · show (((BitVec.setWidth 32 1#1).toInt : ℝ) : EReal) = _
    norm_num

theorem uitofp_bit (b : BitVec 1) : (FloatOps.uitofp (F := Ideal) .f32 b : EReal) = if b = 1#1 then 1 else 0 := by
  rcases BitVec.eq_zero_or_eq_one b with rfl | rfl
  · show (((0#1).toNat : ℝ) : EReal) = _
    norm_num
  · show (((1#1).toNat : ℝ) : EReal) = _
    norm_num

end Cert.Proof.Value

end
-- ==== Proof.Value.Reference.lean ====
/-
  The reference's result is the share of the rows whose label is among the five best: its top-k lists, per row, the first five
  positions of the stable descending sort, and a row counts where one of the five is the label.
-/
module

public import proofs.«01_k».proof.Proof.Value.Share
public import proofs.«01_k».proof.Proof.Gen.ReferenceIdeal.Run

@[expose] public section

noncomputable section

namespace Cert.Proof.Value

open Idealize.ShloMosaic Cert.ReferenceIdeal Cert.ReferenceIdeal.Gen

/-- A row's bit is set exactly where fewer than five columns come before its label. -/
theorem top_five (x : Scores) (l : Labels) (h : ∀ j, (l j).toNat < 32768) (r : Fin 128) (R : Fin 32768 → Fin 32768 → Bool)
    (hR : ∀ a b, R a b = decide (row x r b < row x r a)) :
    (∃ i : Fin 5, IntOp.cmpi .eq (BitVec.ofNat 32 (sortedFrom R ⟨i.val, by omega⟩).val) (l (ix1 r)) = 1#1) ↔ (ahead x l r).card < 5 := by
  rw [ahead, ← mem_prefix_iff (row x r) R hR (col l r) 5]
  have word (k : Fin 32768) : IntOp.cmpi .eq (BitVec.ofNat 32 k.val) (l (ix1 r)) = 1#1 ↔ k = col l r := by
    have hk := k.isLt
    show BitVec.ofBool (BitVec.ofNat 32 k.val == l (ix1 r)) = 1#1 ↔ _
    rw [show (BitVec.ofNat 32 k.val == l (ix1 r)) = decide (BitVec.ofNat 32 k.val = l (ix1 r)) from rfl, ofBool_one, Fin.ext_iff, col_val h]
    constructor
    · intro e; rw [← e, BitVec.toNat_ofNat]; omega
    · intro e; rw [e, BitVec.ofNat_toNat, BitVec.setWidth_eq]
  constructor
  · rintro ⟨i, hi⟩; exact ⟨⟨i.val, by omega⟩, i.isLt, (word _).1 hi⟩
  · rintro ⟨i, hi, e⟩; exact ⟨⟨i.val, hi⟩, (word _).2 e⟩

theorem reference_value (x : FVec Ideal S128x32768 .f32) (l : IVec S128 32) (h : ∀ j, (l j).toNat < 32768) :
    Host.divf (Host.reduceAdd (uitofp .f32 (Host.reduce IntOp.ori (cmpi .eq ((Host.topK S128x5 1 (FloatOps.cmpfTotal .gt) x sliceFits_S128x32768_S128x5).2) (broadcastInDim S128x5 ![0,1] bcast_S128x1_S128x5_0_1 (broadcastInDim S128x1 ![0] bcast_S128_S128x1_0 l))) (constantI S_ 1 0#1) reducesTo_S128x5_S128_d1 h_S_)) (constant (F := Ideal) S_ .f32 0x00000000#32) reducesTo_S128_S_d0 h_S_) (constant (F := Ideal) S_ .f32 0x43000000#32)
      = fun _ => share x l := by
  funext j
  pointwise [Host.topK, Host.sort2]
  unfold share
  refine congrArg (fun s => Ideal.div s _) (Finset.sum_congr rfl fun r _ => ?_)
  rw [uitofp_bit, hit]
  refine if_congr ?_ rfl rfl
  rw [Routing.fold_ori]
  refine Iff.trans ?_ (top_five x l h r (fun k k' => FloatOps.cmpfTotal (F := Ideal) CmpDirection.gt (x (ix2 r k)) (x (ix2 r k')) == 1#1) fun a b => ?_)
  · simp only [Finset.mem_univ, true_and]
    refine exists_congr fun i => ?_
    have along (c k : Fin 32768) : (ix2 r c : S128x32768.Idx).along 1 k = ix2 r k := by
      funext a
      match a with
      | ⟨0, _⟩ => rfl
      | ⟨1, _⟩ => rfl
    simp only [along]
    rfl
  · show (BitVec.ofBool (decide (x (ix2 r b) < x (ix2 r a))) == 1#1) = _
    by_cases g : x (ix2 r b) < x (ix2 r a) <;> simp [g]

end Cert.Proof.Value

end
-- ==== Proof.Value.Kernel.lean ====
/-
  The kernel's result is the share of the rows whose label is among the five best: after `n` grid points the running count of a
  row is the number of columns, among the first `2048 n`, that come before the row's label; after the sixteenth it is the
  number among all of them.
-/
module

public import proofs.«01_k».proof.Proof.Value.Share
public import proofs.«01_k».proof.Proof.KernelIdealRun.Launch

@[expose] public section

noncomputable section

namespace Cert.Proof.Value

open Idealize.ShloMosaic Idealize.ShloMosaic.TcCoe Cert.KernelIdeal Cert.KernelIdeal.Gen Cert.Proof.KernelIdealRun

/-- Column number `k` is a column that comes before row `r`'s label. -/
def Counts (x : Scores) (l : Labels) (r : Fin 128) (k : Nat) : Prop := ∃ h : k < 32768, Ahead (row x r) ⟨k, h⟩ (col l r)

open Classical in
theorem count_all (x : Scores) (l : Labels) (r : Fin 128) : Nat.count (Counts x l r) 32768 = (ahead x l r).card := by
  rw [← Routing.card_filter_fin, ahead]
  exact congrArg Finset.card (Finset.filter_congr fun k _ => ⟨fun ⟨_, h⟩ => h, fun h => ⟨k.isLt, h⟩⟩)

open Classical in
/-- One grid point adds the columns of its block that count. -/
theorem point_value (x : Scores) (l : Labels) (hl : ∀ j, (l j).toNat < 32768) (r : Fin 128) (z : Fin 1) (i : grid1.Coords) (t : Nat)
    (ht : t < 16) (hi : (i 0).val = t)
    (s : FVec Ideal S128x2048 .f32) (v : FVec Ideal S128x1 .f32) (lb : IVec S128x1 32) (a : IVec S128x1 32)
    (hs : ∀ k : Fin 2048, s (ix2 r k) = row x r ⟨t * 2048 + k.val, by omega⟩) (hv : v (ix2 r 0) = row x r (col l r))
    (hlb : lb (ix2 r 0) = l (ix1 r)) (ha : a (ix2 r z) = BitVec.ofNat 32 (Nat.count (Counts x l r) (t * 2048))) :
    k1_pay2 (F := Ideal) i s v lb a (ix2 r z) = BitVec.ofNat 32 (Nat.count (Counts x l r) ((t + 1) * 2048)) := by
  pointwise [k1_pay2]
  rw [IndicatorCount.fold_addi_setWidth_eq_card, ha, Nat.add_mul, Nat.one_mul, Nat.count_add, BitVec.ofNat_add]
  refine congrArg (fun n => BitVec.ofNat 32 (Nat.count (Counts x l r) (t * 2048)) + BitVec.ofNat 32 n) ?_
  rw [← Routing.card_filter_fin]
  refine congrArg Finset.card (Finset.filter_congr fun k _ => ?_)
  rw [ori_one, andi_one, hi]
  refine (or_congr (ofBool_one (v (ix2 r 0) < s (ix2 r k))) (and_congr (ofBool_one (s (ix2 r k) = v (ix2 r 0)))
    (column_slt t k.val ht k.isLt (lb (ix2 r 0)) (by rw [hlb]; exact hl _)))).trans ?_
  rw [hlb, hs, hv, ← col_val hl]
  exact ⟨fun h => ⟨by omega, h⟩, fun ⟨_, h⟩ => h⟩

variable (m : (ℓ : Loc nD τ sig) → Buf (Elt Ideal) ℓ)

/-- The scores and the labels at the launch. -/
abbrev scores (c : Dev nD) : Scores := m ((c : Thread nD τ).loc main_arg0)
abbrev labels (c : Dev nD) : Labels := m ((c : Thread nD τ).loc main_arg1)

/-- The gathered column holds, per row, the score of the row's label. -/
theorem gathered (h : PreOK m) (c : Dev nD) (r : Fin 128) :
    (VC m c main_v6 : S128x1.Idx → EReal) (ix2 r 0) = row (scores m c) r (col (labels m c) r) := by
  rw [VC_v6]
  pointwise
  show fx m c _ = _
  rw [fx_eq]
  refine shapeCast_apply (s := S128x32768) _ _ _ (ix2 r (col (labels m c) r)) ?_
  rw [Shape.rowMajor_val_two, Shape.rowMajor_val_one]
  have hl := h c (ix1 r)
  have e := fi_toNat m h c (ix1 r)
  have hc := col_val (l := labels m c) (fun j => h c j) r
  show r.val * 32768 + (col (labels m c) r).val = (fi m c (ix1 r)).toNat % 4194304
  rw [e, hc]
  show r.val * 32768 + (labels m c (ix1 r)).toNat = (r.val * 32768 + (labels m c (ix1 r)).toNat) % 4194304
  have : (labels m c (ix1 r)).toNat < 32768 := hl
  have := r.isLt
  omega

theorem label_column (c : Dev nD) (r : Fin 128) : (VC m c main_v7 : S128x1.Idx → BitVec 32) (ix2 r 0) = labels m c (ix1 r) := by
  rw [VC_v7]
  pointwise

theorem idx0 : ∀ t : Fin cfg1.N, win1_0.index t = ![0, 0] ∧ win1_1.index t = ![0, 0] ∧ win1_2.index t = ![0, t.val] := by decide +kernel

theorem block0 (c : Dev nD) (t : Fin cfg1.N) (j : S128x1.Idx) : bV0 (VCr m) c t j = (VC m c main_v6 : S128x1.Idx → EReal) j := by
  blk_ext [bV0, idx0 t]
theorem block1 (c : Dev nD) (t : Fin cfg1.N) (j : S128x1.Idx) : bV1 (VCr m) c t j = (VC m c main_v7 : S128x1.Idx → BitVec 32) j := by
  blk_ext [bV1, idx0 t]
theorem block2 (c : Dev nD) (t : Fin cfg1.N) (r : Fin 128) (k : Fin 2048) (hk : t.val * 2048 + k.val < 32768) :
    bV2 (VCr m) c t (ix2 r k) = row (scores m c) r ⟨t.val * 2048 + k.val, hk⟩ := by
  have e : bV2 (VCr m) c t (ix2 r k) = (VC m c main_arg0 : S128x32768.Idx → EReal) (ix2 r ⟨t.val * 2048 + k.val, hk⟩) := by
    blk_ext [bV2, idx0 t]
  rw [e, VC_arg0]

open Classical in
/-- The running count after `n` points. -/
theorem acc_value (h : PreOK m) (c : Dev nD) (r : Fin 128) (z : Fin 1) : ∀ n : Nat, n ≤ 16 →
    acc (VCr m) c n (ix2 r z) = BitVec.ofNat 32 (Nat.count (Counts (scores m c) (labels m c) r) (n * 2048)) := by
  intro n
  induction n with
  | zero =>
    intro _
    pointwise [acc_zero, k1_pay1]
    rw [Nat.count_zero]
  | succ n ih =>
    intro hn
    have hN : n < cfg1.N := by rw [show cfg1.N = 16 from N_1]; omega
    rw [show acc (VCr m) c (n + 1) = _ from acc_succ (VCr m) c ⟨n, hN⟩]
    refine point_value (scores m c) (labels m c) (fun j => h c j) r z _ n (by omega) (coords_val ⟨n, hN⟩) _ _ _ _ (fun k => ?_) ?_ ?_ (ih (by omega))
    · exact block2 m c ⟨n, hN⟩ r k _
    · rw [block0]; exact gathered m h c r
    · rw [block1]; exact label_column m c r

/-- The result. -/
theorem kernel_value (h : PreOK m) (c : Dev nD) : (result m c : S_.Idx → EReal) = fun _ => share (scores m c) (labels m c) := by
  have out (j : S1x1.Idx) : k1_pay3 (acc (VCr m) c 16) j = share (scores m c) (labels m c) := by
    pointwise [k1_pay3]
    unfold share
    refine congrArg (fun s => Ideal.div s _) (Finset.sum_congr rfl fun r _ => ?_)
    rw [Fin.sum_univ_one, acc_value m h c r 0 16 le_rfl, sitofp_bit, hit, count_all, if_congr (count_slt _ ?_) rfl rfl]
    exact (Finset.card_le_univ _).trans (by rw [Fintype.card_fin])
  rw [result_eq]
  have e : outArr (VCr m) c = fun _ => share (scores m c) (labels m c) := by
    unfold outArr
    refine (dat (VCr m) c).arrAt_eq_of_after_last 3 (⟨15, by decide⟩ : Fin cfg1.N) (by decide +kernel) _ fun j => ?_
    exact out j
  rw [e]
  rfl

end Cert.Proof.Value

end
-- ==== Proof.lean ====
/-
  The proof of `Cert.Claim` (proofs.«01_k».proof.Defs). The kernel runs to its end without fault, its arguments unchanged and
  every counter back at zero, on bit patterns (KernelRun) and over the extended reals (KernelIdealRun). Over the extended reals
  the kernel and the reference leave the same number: the share of the rows whose label is among the five best (Value).
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_label_in_row
public import proofs.«01_k».proof.Proof.LabelRange
public import proofs.«01_k».proof.Proof.KernelRun.Launch
public import proofs.«01_k».proof.Proof.KernelIdealRun.Launch
public import proofs.«01_k».proof.Proof.Value.Reference
public import proofs.«01_k».proof.Proof.Value.Kernel

@[expose] public section

noncomputable section

namespace Cert.Proof

open Idealize.ShloMosaic Idealize.SL.Sem

/-- The precondition puts every label in the range of the columns. -/
theorem ok_kernel {m : (ℓ : Loc Cert.Kernel.nD Cert.Kernel.τ Cert.Kernel.sig) → Buf (Elt Bits) ℓ} (h : Cert.Pre_Kernel m) :
    KernelRun.PreOK m := fun d j => LabelRange.label_lt (F := Bits) _ _ (h d) j
theorem ok_kernelIdeal {m : (ℓ : Loc Cert.KernelIdeal.nD Cert.KernelIdeal.τ Cert.KernelIdeal.sig) → Buf (Elt Ideal) ℓ}
    (h : Cert.Pre_KernelIdeal m) : KernelIdealRun.PreOK m := fun d j => LabelRange.label_lt (F := Ideal) _ _ (h d) j

/-- The kernel's frame, on bit patterns. -/
theorem frame_kernel : Cert.quiescent_Kernel := fun m g h =>
  (θ_run Cert.Kernel.defs _ _).mono (fun _ q => ⟨fun c => (q.1 c).2, q.2⟩) (KernelRun.run_main (F := Bits) m g (ok_kernel h))

/-- The kernel's frame, over the extended reals. -/
theorem frame_kernelIdeal : Cert.quiescent_KernelIdeal := fun m g h =>
  (θ_run Cert.KernelIdeal.defs _ _).mono (fun _ q => ⟨fun c => (q.1 c).2, q.2⟩)
    (KernelIdealRun.run_main (F := Ideal) m g (ok_kernelIdeal h))

/-- The reference's frame; it declares no semaphore. -/
theorem frame_reference : Cert.quiescent_ReferenceIdeal := fun m g _ =>
  (θ_run Cert.ReferenceIdeal.defs _ _).mono (fun r q => ⟨fun c => (q c).2, sem_eq_zero_of_no_sems (by decide) r.2⟩)
    (Cert.ReferenceIdeal.Value.run (F := Ideal) m g)

theorem frame_reference_pre : Cert.quiescent_ReferenceIdeal_pre_label_in_row := fun m g _ => frame_reference m g trivial

/-- Kernel and reference leave the same result. -/
theorem algebraic : Cert.algebraic_KernelIdeal_ReferenceIdeal := by
  intro m g m' g' h hagree
  have ok := ok_kernelIdeal h
  refine ⟨fun c => KernelIdealRun.result m c,
    (θ_run Cert.KernelIdeal.defs _ _).mono (fun _ q c => q.1 c) (KernelIdealRun.run_main (F := Ideal) m g ok), ?_⟩
  refine (θ_run Cert.ReferenceIdeal.defs _ _).mono (fun _ q c => ⟨(q c).1.trans ?_, (q c).2⟩)
    (Cert.ReferenceIdeal.Value.run (F := Ideal) m' g')
  rw [(hagree c).1, (hagree c).2]
  exact (Value.reference_value _ _ fun j => ok c j).trans (Value.kernel_value m ok c).symm

theorem claim : Cert.Claim := ⟨Cert.Kernel.Gen.facts, Cert.KernelIdeal.Gen.facts, Cert.ReferenceIdeal.Gen.facts, Cert.Pre_label_in_row.Gen.facts,
  frame_kernel, frame_kernelIdeal, frame_reference, frame_reference_pre, trivial, algebraic⟩

end Cert.Proof

end
